-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x1024 : Shape := ⟨2, ![256, 1024]⟩
abbrev S1024x1024 : Shape := ⟨2, ![1024, 1024]⟩
abbrev S16x4x64x64x128 : Shape := ⟨5, ![16, 4, 64, 64, 128]⟩
abbrev S_ : Shape := ⟨0, ![]⟩

class Facts : Prop where
  bcast_S_S256x1024 : S_.BroadcastsInDim S256x1024 (![] : Fin 0 → Fin S256x1024.rank)
  bcast_S_S1024x1024 : S_.BroadcastsInDim S1024x1024 (![] : Fin 0 → Fin S1024x1024.rank)
  bcast_S_S16x4x64x64x128 : S_.BroadcastsInDim S16x4x64x64x128 (![] : Fin 0 → Fin S16x4x64x64x128.rank)

variable [Facts]

def fn {F : FTy → Type} [FloatOps F] (main_arg0 : FVec F S256x1024 .f32) (main_arg1 : FVec F S1024x1024 .f32) (main_arg2 : FVec F S16x4x64x64x128 .f32) (main_arg3 : FVec F S16x4x64x64x128 .f32) (main_arg4 : FVec F S1024x1024 .f32) : IVec S256x1024 1 × IVec S1024x1024 1 × IVec S16x4x64x64x128 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S16x4x64x64x128 .f32 := Host.absf main_arg2
  let main_cst_1 : FVec F S_ .f32 := constant S_ .f32 0x7F800000#32
  let main_v7 : FVec F S16x4x64x64x128 .f32 := broadcastInDim S16x4x64x64x128 ![] bcast_S_S16x4x64x64x128 main_cst_1
  let main_v8 : IVec S16x4x64x64x128 1 := cmpf .olt main_v6 main_v7
  (main_v2, main_v5, main_v8)
-- ==== Pre_finite_ReferenceIdeal.lean ====
abbrev S256x1024 : Shape := ⟨2, ![256, 1024]⟩
abbrev S1024x8192 : Shape := ⟨2, ![1024, 8192]⟩
abbrev S16x4x64x64x128 : Shape := ⟨5, ![16, 4, 64, 64, 128]⟩
abbrev S8192x1024 : Shape := ⟨2, ![8192, 1024]⟩
abbrev S_ : Shape := ⟨0, ![]⟩

class Facts : Prop where
  bcast_S_S256x1024 : S_.BroadcastsInDim S256x1024 (![] : Fin 0 → Fin S256x1024.rank)
  bcast_S_S1024x8192 : S_.BroadcastsInDim S1024x8192 (![] : Fin 0 → Fin S1024x8192.rank)
  bcast_S_S16x4x64x64x128 : S_.BroadcastsInDim S16x4x64x64x128 (![] : Fin 0 → Fin S16x4x64x64x128.rank)

variable [Facts]

def fn {F : FTy → Type} [FloatOps F] (main_arg0 : FVec F S256x1024 .f32) (main_arg1 : FVec F S1024x8192 .f32) (main_arg2 : FVec F S16x4x64x64x128 .f32) (main_arg3 : FVec F S16x4x64x64x128 .f32) (main_arg4 : FVec F S8192x1024 .f32) : IVec S256x1024 1 × IVec S1024x8192 1 × IVec S16x4x64x64x128 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S16x4x64x64x128 .f32 := Host.absf main_arg2
  let main_cst_1 : FVec F S_ .f32 := constant S_ .f32 0x7F800000#32
  let main_v7 : FVec F S16x4x64x64x128 .f32 := broadcastInDim S16x4x64x64x128 ![] bcast_S_S16x4x64x64x128 main_cst_1
  let main_v8 : IVec S16x4x64x64x128 1 := cmpf .olt main_v6 main_v7
  (main_v2, main_v5, main_v8)
-- ==== Kernel.lean ====
abbrev S256x1024 : Shape := ⟨2, ![256, 1024]⟩
abbrev S1024x1024 : Shape := ⟨2, ![1024, 1024]⟩
abbrev S16x4x64x64x128 : Shape := ⟨5, ![16, 4, 64, 64, 128]⟩
abbrev S1x256x1024 : Shape := ⟨3, ![1, 256, 1024]⟩
abbrev S4x8x16x64x128 : Shape := ⟨5, ![4, 8, 16, 64, 128]⟩
abbrev S224x1024 : Shape := ⟨2, ![224, 1024]⟩
abbrev S4x8 : Shape := ⟨2, ![4, 8]⟩
abbrev S3 : Shape := ⟨1, ![3]⟩
abbrev S1x1 : Shape := ⟨2, ![1, 1]⟩
abbrev S_ : Shape := ⟨0, ![]⟩
abbrev S1x1x16x64x128 : Shape := ⟨5, ![1, 1, 16, 64, 128]⟩
abbrev S16x64x128 : Shape := ⟨3, ![16, 64, 128]⟩
abbrev S16x1x64x1x128 : Shape := ⟨5, ![16, 1, 64, 1, 128]⟩
abbrev S1024x128 : Shape := ⟨2, ![1024, 128]⟩
abbrev S64x128 : Shape := ⟨2, ![64, 128]⟩
abbrev S64x1024 : Shape := ⟨2, ![64, 1024]⟩
abbrev S64 : Shape := ⟨1, ![64]⟩
abbrev S64x1 : Shape := ⟨2, ![64, 1]⟩
abbrev S1 : Shape := ⟨1, ![1]⟩
abbrev S128x1024 : Shape := ⟨2, ![128, 1024]⟩
abbrev S32x1024 : Shape := ⟨2, ![32, 1024]⟩

abbrev nBuf : Space → Nat
  | .hbm => 6
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S16x4x64x64x128, .f32⟩
  | .hbm, ⟨3, _⟩ => ⟨S16x4x64x64x128, .f32⟩
  | .hbm, ⟨4, _⟩ => ⟨S1024x1024, .f32⟩
  | .hbm, ⟨5, _⟩ => ⟨S1x256x1024, .f32⟩
  | .local _ .vmem, ⟨0, _⟩ => ⟨S256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S4x8x16x64x128, .f32⟩
  | .local _ .vmem, ⟨5, _⟩ => ⟨S4x8x16x64x128, .f32⟩
  | .local _ .vmem, ⟨6, _⟩ => ⟨S256x1024, .f32⟩
  | .local _ .vmem, ⟨7, _⟩ => ⟨S256x1024, .bf16⟩
  | .local _ .vmem, ⟨8, _⟩ => ⟨S224x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 5 → Nat :=
  let c0_i32_9 : BitVec 32 := 0#32
  let c0_i32_1 : BitVec 32 := 0#32
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.muli v2 c8_i32_0
  let v4 : BitVec 32 := Scalar.addi v3 c0_i32
  let c0_i32_11 : BitVec 32 := 0#32
  ![0, 0, 0, v4.toNat, 0]
def k0_off2 (d0 : Dev nD) (c0_i32_178 : BitVec 32) : Fin 5 → Nat :=
  let c0_i32_187 : BitVec 32 := 0#32
  let c1_i32_179 : BitVec 32 := 1#32
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.muli v2 c8_i32_0
  let v108 : BitVec 32 := Scalar.addi v3 c0_i32_178
  let c0_i32_189 : BitVec 32 := 0#32
  ![0, 1, 0, v108.toNat, 0]
def k0_off3 (d0 : Dev nD) (c0_i32_362 : BitVec 32) : Fin 5 → Nat :=
  let c0_i32_371 : BitVec 32 := 0#32
  let c2_i32_363 : BitVec 32 := 2#32
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.muli v2 c8_i32_0
  let v212 : BitVec 32 := Scalar.addi v3 c0_i32_362
  let c0_i32_373 : BitVec 32 := 0#32
  ![0, 2, 0, v212.toNat, 0]
def k0_off4 (d0 : Dev nD) (c0_i32_546 : BitVec 32) : Fin 5 → Nat :=
  let c0_i32_555 : BitVec 32 := 0#32
  let c3_i32_547 : BitVec 32 := 3#32
  let c0_i32_556 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.muli v2 c8_i32_0
  let v316 : BitVec 32 := Scalar.addi v3 c0_i32_546
  let c0_i32_557 : BitVec 32 := 0#32
  ![0, 3, 0, v316.toNat, 0]
def k0_dev1 (d0 : Dev nD) : Nat :=
  let c0_i32_1944 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1941 : BitVec 32 := 4#32
  let v1492 : BitVec 32 := Scalar.xori v2 c4_i32_1941
  let c1_i32_1943 : BitVec 32 := 1#32
  let v1493 : BitVec 32 := Scalar.muli v1492 c1_i32_1943
  let v1494 : BitVec 32 := Scalar.addi c0_i32_1944 v1493
  v1494.toNat
def k0_dev2 (d0 : Dev nD) : Nat :=
  let c0_i32_1948 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1945 : BitVec 32 := 2#32
  let v1495 : BitVec 32 := Scalar.xori v2 c2_i32_1945
  let c1_i32_1947 : BitVec 32 := 1#32
  let v1496 : BitVec 32 := Scalar.muli v1495 c1_i32_1947
  let v1497 : BitVec 32 := Scalar.addi c0_i32_1948 v1496
  v1497.toNat
def k0_dev3 (d0 : Dev nD) : Nat :=
  let c0_i32_1952 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1949 : BitVec 32 := 1#32
  let v1498 : BitVec 32 := Scalar.xori v2 c1_i32_1949
  let c1_i32_1951 : BitVec 32 := 1#32
  let v1499 : BitVec 32 := Scalar.muli v1498 c1_i32_1951
  let v1500 : BitVec 32 := Scalar.addi c0_i32_1952 v1499
  v1500.toNat
def k0_off5 (d0 : Dev nD) : Fin 2 → Nat :=
  let c0_i32_1958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1955 : BitVec 32 := 4#32
  let v1502 : BitVec 32 := Scalar.andi v2 c4_i32_1955
  let c0_i32_1956 : BitVec 32 := 0#32
  let v1503 : BitVec 1 := Scalar.cmpi .ne v1502 c0_i32_1956
  let c0_i32_1957 : BitVec 32 := 0#32
  let c128_i32 : BitVec 32 := 128#32
  let v1504 : BitVec 32 := Scalar.select v1503 c0_i32_1957 c128_i32
  let v1505 : BitVec 32 := Scalar.addi c0_i32_1958 v1504
  let c0_i32_1968 : BitVec 32 := 0#32
  ![v1505.toNat, 0]
def k0_dev4 (d0 : Dev nD) : Nat :=
  let c0_i32_1965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1954 : BitVec 32 := 4#32
  let v1501 : BitVec 32 := Scalar.xori v2 c4_i32_1954
  let c1_i32_1964 : BitVec 32 := 1#32
  let v1508 : BitVec 32 := Scalar.muli v1501 c1_i32_1964
  let v1509 : BitVec 32 := Scalar.addi c0_i32_1965 v1508
  v1509.toNat
def k0_off6 (d0 : Dev nD) : Fin 2 → Nat :=
  let c0_i32_1961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1955 : BitVec 32 := 4#32
  let v1502 : BitVec 32 := Scalar.andi v2 c4_i32_1955
  let c0_i32_1956 : BitVec 32 := 0#32
  let v1503 : BitVec 1 := Scalar.cmpi .ne v1502 c0_i32_1956
  let c128_i32_1959 : BitVec 32 := 128#32
  let c0_i32_1960 : BitVec 32 := 0#32
  let v1506 : BitVec 32 := Scalar.select v1503 c128_i32_1959 c0_i32_1960
  let v1507 : BitVec 32 := Scalar.addi c0_i32_1961 v1506
  let v1526 : Index := Scalar.indexCast v1507
  let c0_1982 : Index := 0#32
  ![v1526.toNat, 0]
def k0_off7 (d0 : Dev nD) : Fin 2 → Nat :=
  let c0_i32_1961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1955 : BitVec 32 := 4#32
  let v1502 : BitVec 32 := Scalar.andi v2 c4_i32_1955
  let c0_i32_1956 : BitVec 32 := 0#32
  let v1503 : BitVec 1 := Scalar.cmpi .ne v1502 c0_i32_1956
  let c128_i32_1959 : BitVec 32 := 128#32
  let c0_i32_1960 : BitVec 32 := 0#32
  let v1506 : BitVec 32 := Scalar.select v1503 c128_i32_1959 c0_i32_1960
  let v1507 : BitVec 32 := Scalar.addi c0_i32_1961 v1506
  let c2_i32_1987 : BitVec 32 := 2#32
  let v1538 : BitVec 32 := Scalar.andi v2 c2_i32_1987
  let c0_i32_1988 : BitVec 32 := 0#32
  let v1539 : BitVec 1 := Scalar.cmpi .ne v1538 c0_i32_1988
  let c0_i32_1989 : BitVec 32 := 0#32
  let c64_i32 : BitVec 32 := 64#32
  let v1540 : BitVec 32 := Scalar.select v1539 c0_i32_1989 c64_i32
  let v1541 : BitVec 32 := Scalar.addi v1507 v1540
  let c0_i32_1998 : BitVec 32 := 0#32
  ![v1541.toNat, 0]
def k0_dev5 (d0 : Dev nD) : Nat :=
  let c0_i32_1995 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1986 : BitVec 32 := 2#32
  let v1537 : BitVec 32 := Scalar.xori v2 c2_i32_1986
  let c1_i32_1994 : BitVec 32 := 1#32
  let v1544 : BitVec 32 := Scalar.muli v1537 c1_i32_1994
  let v1545 : BitVec 32 := Scalar.addi c0_i32_1995 v1544
  v1545.toNat
def k0_off8 (d0 : Dev nD) : Fin 2 → Nat :=
  let c0_i32_1961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1955 : BitVec 32 := 4#32
  let v1502 : BitVec 32 := Scalar.andi v2 c4_i32_1955
  let c0_i32_1956 : BitVec 32 := 0#32
  let v1503 : BitVec 1 := Scalar.cmpi .ne v1502 c0_i32_1956
  let c128_i32_1959 : BitVec 32 := 128#32
  let c0_i32_1960 : BitVec 32 := 0#32
  let v1506 : BitVec 32 := Scalar.select v1503 c128_i32_1959 c0_i32_1960
  let v1507 : BitVec 32 := Scalar.addi c0_i32_1961 v1506
  let c2_i32_1987 : BitVec 32 := 2#32
  let v1538 : BitVec 32 := Scalar.andi v2 c2_i32_1987
  let c0_i32_1988 : BitVec 32 := 0#32
  let v1539 : BitVec 1 := Scalar.cmpi .ne v1538 c0_i32_1988
  let c64_i32_1990 : BitVec 32 := 64#32
  let c0_i32_1991 : BitVec 32 := 0#32
  let v1542 : BitVec 32 := Scalar.select v1539 c64_i32_1990 c0_i32_1991
  let v1543 : BitVec 32 := Scalar.addi v1507 v1542
  let v1562 : Index := Scalar.indexCast v1543
  let c0_2012 : Index := 0#32
  ![v1562.toNat, 0]
def k0_off9 (d0 : Dev nD) : Fin 2 → Nat :=
  let c0_i32_1961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1955 : BitVec 32 := 4#32
  let v1502 : BitVec 32 := Scalar.andi v2 c4_i32_1955
  let c0_i32_1956 : BitVec 32 := 0#32
  let v1503 : BitVec 1 := Scalar.cmpi .ne v1502 c0_i32_1956
  let c128_i32_1959 : BitVec 32 := 128#32
  let c0_i32_1960 : BitVec 32 := 0#32
  let v1506 : BitVec 32 := Scalar.select v1503 c128_i32_1959 c0_i32_1960
  let v1507 : BitVec 32 := Scalar.addi c0_i32_1961 v1506
  let c2_i32_1987 : BitVec 32 := 2#32
  let v1538 : BitVec 32 := Scalar.andi v2 c2_i32_1987
  let c0_i32_1988 : BitVec 32 := 0#32
  let v1539 : BitVec 1 := Scalar.cmpi .ne v1538 c0_i32_1988
  let c64_i32_1990 : BitVec 32 := 64#32
  let c0_i32_1991 : BitVec 32 := 0#32
  let v1542 : BitVec 32 := Scalar.select v1539 c64_i32_1990 c0_i32_1991
  let v1543 : BitVec 32 := Scalar.addi v1507 v1542
  let c1_i32_2017 : BitVec 32 := 1#32
  let v1574 : BitVec 32 := Scalar.andi v2 c1_i32_2017
  let c0_i32_2018 : BitVec 32 := 0#32
  let v1575 : BitVec 1 := Scalar.cmpi .ne v1574 c0_i32_2018
  let c0_i32_2019 : BitVec 32 := 0#32
  let c32_i32 : BitVec 32 := 32#32
  let v1576 : BitVec 32 := Scalar.select v1575 c0_i32_2019 c32_i32
  let v1577 : BitVec 32 := Scalar.addi v1543 v1576
  let c0_i32_2027 : BitVec 32 := 0#32
  ![v1577.toNat, 0]
def k0_dev6 (d0 : Dev nD) : Nat :=
  let c0_i32_2025 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2016 : BitVec 32 := 1#32
  let v1573 : BitVec 32 := Scalar.xori v2 c1_i32_2016
  let c1_i32_2024 : BitVec 32 := 1#32
  let v1580 : BitVec 32 := Scalar.muli v1573 c1_i32_2024
  let v1581 : BitVec 32 := Scalar.addi c0_i32_2025 v1580
  v1581.toNat
def k0_off10 (d0 : Dev nD) : Fin 2 → Nat :=
  let c0_i32_1961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1955 : BitVec 32 := 4#32
  let v1502 : BitVec 32 := Scalar.andi v2 c4_i32_1955
  let c0_i32_1956 : BitVec 32 := 0#32
  let v1503 : BitVec 1 := Scalar.cmpi .ne v1502 c0_i32_1956
  let c128_i32_1959 : BitVec 32 := 128#32
  let c0_i32_1960 : BitVec 32 := 0#32
  let v1506 : BitVec 32 := Scalar.select v1503 c128_i32_1959 c0_i32_1960
  let v1507 : BitVec 32 := Scalar.addi c0_i32_1961 v1506
  let c2_i32_1987 : BitVec 32 := 2#32
  let v1538 : BitVec 32 := Scalar.andi v2 c2_i32_1987
  let c0_i32_1988 : BitVec 32 := 0#32
  let v1539 : BitVec 1 := Scalar.cmpi .ne v1538 c0_i32_1988
  let c64_i32_1990 : BitVec 32 := 64#32
  let c0_i32_1991 : BitVec 32 := 0#32
  let v1542 : BitVec 32 := Scalar.select v1539 c64_i32_1990 c0_i32_1991
  let v1543 : BitVec 32 := Scalar.addi v1507 v1542
  let c1_i32_2017 : BitVec 32 := 1#32
  let v1574 : BitVec 32 := Scalar.andi v2 c1_i32_2017
  let c0_i32_2018 : BitVec 32 := 0#32
  let v1575 : BitVec 1 := Scalar.cmpi .ne v1574 c0_i32_2018
  let c32_i32_2020 : BitVec 32 := 32#32
  let c0_i32_2021 : BitVec 32 := 0#32
  let v1578 : BitVec 32 := Scalar.select v1575 c32_i32_2020 c0_i32_2021
  let v1579 : BitVec 32 := Scalar.addi v1543 v1578
  let v1598 : Index := Scalar.indexCast v1579
  let c0_2041 : Index := 0#32
  ![v1598.toNat, 0]
def k0_off11 (d0 : Dev nD) : Fin 2 → Nat :=
  let c32_i32_2048 : BitVec 32 := 32#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2046 : BitVec 32 := 0#32
  let v1610 : BitVec 32 := Scalar.shrsi v2 c0_i32_2046
  let c0_i32_2047 : BitVec 32 := 0#32
  let v1611 : BitVec 32 := Scalar.shli v1610 c0_i32_2047
  let v1612 : BitVec 32 := Scalar.muli c32_i32_2048 v1611
  let c0_i32_2053 : BitVec 32 := 0#32
  ![v1612.toNat, 0]
def k0_dev7 (d0 : Dev nD) : Nat :=
  let c0_i32_2052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2045 : BitVec 32 := 1#32
  let v1609 : BitVec 32 := Scalar.xori v2 c1_i32_2045
  let c1_i32_2051 : BitVec 32 := 1#32
  let v1613 : BitVec 32 := Scalar.muli v1609 c1_i32_2051
  let v1614 : BitVec 32 := Scalar.addi c0_i32_2052 v1613
  v1614.toNat
def k0_off12 (d0 : Dev nD) : Fin 2 → Nat :=
  let c32_i32_2069 : BitVec 32 := 32#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2067 : BitVec 32 := 1#32
  let v1632 : BitVec 32 := Scalar.shrsi v2 c1_i32_2067
  let c1_i32_2068 : BitVec 32 := 1#32
  let v1633 : BitVec 32 := Scalar.shli v1632 c1_i32_2068
  let v1634 : BitVec 32 := Scalar.muli c32_i32_2069 v1633
  let c0_i32_2074 : BitVec 32 := 0#32
  ![v1634.toNat, 0]
def k0_dev8 (d0 : Dev nD) : Nat :=
  let c0_i32_2073 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2066 : BitVec 32 := 2#32
  let v1631 : BitVec 32 := Scalar.xori v2 c2_i32_2066
  let c1_i32_2072 : BitVec 32 := 1#32
  let v1635 : BitVec 32 := Scalar.muli v1631 c1_i32_2072
  let v1636 : BitVec 32 := Scalar.addi c0_i32_2073 v1635
  v1636.toNat
def k0_off13 (d0 : Dev nD) : Fin 2 → Nat :=
  let c32_i32_2090 : BitVec 32 := 32#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2088 : BitVec 32 := 2#32
  let v1654 : BitVec 32 := Scalar.shrsi v2 c2_i32_2088
  let c2_i32_2089 : BitVec 32 := 2#32
  let v1655 : BitVec 32 := Scalar.shli v1654 c2_i32_2089
  let v1656 : BitVec 32 := Scalar.muli c32_i32_2090 v1655
  let c0_i32_2095 : BitVec 32 := 0#32
  ![v1656.toNat, 0]
def k0_dev9 (d0 : Dev nD) : Nat :=
  let c0_i32_2094 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2087 : BitVec 32 := 4#32
  let v1653 : BitVec 32 := Scalar.xori v2 c4_i32_2087
  let c1_i32_2093 : BitVec 32 := 1#32
  let v1657 : BitVec 32 := Scalar.muli v1653 c1_i32_2093
  let v1658 : BitVec 32 := Scalar.addi c0_i32_2094 v1657
  v1658.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x1024 : Shape := ⟨2, ![256, 1024]⟩
abbrev S1024x8192 : Shape := ⟨2, ![1024, 8192]⟩
abbrev S16x4x64x64x128 : Shape := ⟨5, ![16, 4, 64, 64, 128]⟩
abbrev S8192x1024 : Shape := ⟨2, ![8192, 1024]⟩
abbrev S1x256x1024 : Shape := ⟨3, ![1, 256, 1024]⟩
abbrev S1x4096x64x128 : Shape := ⟨4, ![1, 4096, 64, 128]⟩
abbrev S1x256x8192 : Shape := ⟨3, ![1, 256, 8192]⟩
abbrev S1x256x64x128 : Shape := ⟨4, ![1, 256, 64, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x64x256x4096 : Shape := ⟨4, ![1, 64, 256, 4096]⟩
abbrev S1x1x256x4096 : Shape := ⟨4, ![1, 1, 256, 4096]⟩
abbrev S1x64x256 : Shape := ⟨3, ![1, 64, 256]⟩
abbrev S1x64x256x1 : Shape := ⟨4, ![1, 64, 256, 1]⟩
abbrev S1x1x256x1 : Shape := ⟨4, ![1, 1, 256, 1]⟩
abbrev S1x64x128x256 : Shape := ⟨4, ![1, 64, 128, 256]⟩

abbrev nBuf : Space → Nat
  | .hbm => 140
  | .vmem => 0
  | .smem => 0
  | _ => 0

abbrev hbmTy0_0 (i : Nat) : BufTy := match i % 128 with
  | 0 => ⟨S256x1024, .f32⟩
  | 1 => ⟨S1024x8192, .f32⟩
  | 2 => ⟨S16x4x64x64x128, .f32⟩
  | 3 => ⟨S16x4x64x64x128, .f32⟩
  | 4 => ⟨S8192x1024, .f32⟩
  | 5 => ⟨S1x256x1024, .f32⟩
  | 6 => ⟨S1x4096x64x128, .f32⟩
  | 7 => ⟨S1x4096x64x128, .f32⟩
  | 8 => ⟨S1x256x8192, .f32⟩
  | 9 => ⟨S1x256x64x128, .f32⟩
  | 10 => ⟨S256, .i32⟩
  | 11 => ⟨S_, .i32⟩
  | 12 => ⟨S_, .i32⟩
  | 13 => ⟨S256, .i32⟩
  | 14 => ⟨S256, .i32⟩
  | 15 => ⟨S256, .i32⟩
  | 16 => ⟨S_, .i32⟩
  | 17 => ⟨S256, .i32⟩
  | 18 => ⟨S256, .i1⟩
  | 19 => ⟨S256, .i32⟩
  | 20 => ⟨S256, .i32⟩
  | 21 => ⟨S_, .i32⟩
  | 22 => ⟨S256, .i32⟩
  | 23 => ⟨S256, .i1⟩
  | 24 => ⟨S256, .i1⟩
  | 25 => ⟨S_, .i32⟩
  | 26 => ⟨S256, .i32⟩
  | 27 => ⟨S256, .i32⟩
  | 28 => ⟨S256, .i32⟩
  | 29 => ⟨S256x1, .i32⟩
  | 30 => ⟨S4096, .i32⟩
  | 31 => ⟨S_, .i32⟩
  | 32 => ⟨S_, .i32⟩
  | 33 => ⟨S4096, .i32⟩
  | 34 => ⟨S4096, .i32⟩
  | 35 => ⟨S4096, .i32⟩
  | 36 => ⟨S_, .i32⟩
  | 37 => ⟨S4096, .i32⟩
  | 38 => ⟨S4096, .i1⟩
  | 39 => ⟨S4096, .i32⟩
  | 40 => ⟨S4096, .i32⟩
  | 41 => ⟨S_, .i32⟩
  | 42 => ⟨S4096, .i32⟩
  | 43 => ⟨S4096, .i1⟩
  | 44 => ⟨S4096, .i1⟩
  | 45 => ⟨S_, .i32⟩
  | 46 => ⟨S4096, .i32⟩
  | 47 => ⟨S4096, .i32⟩
  | 48 => ⟨S4096, .i32⟩
  | 49 => ⟨S1x4096, .i32⟩
  | 50 => ⟨S256x4096, .i32⟩
  | 51 => ⟨S256x4096, .i32⟩
  | 52 => ⟨S256x4096, .i1⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S1x4096, .i32⟩
  | 60 => ⟨S1x4096, .i32⟩
  | 61 => ⟨S_, .i32⟩
  | 62 => ⟨S1x4096, .i32⟩
  | 63 => ⟨S1x4096, .i1⟩
  | 64 => ⟨S_, .i32⟩
  | 65 => ⟨S1x4096, .i32⟩
  | 66 => ⟨S1x4096, .i1⟩
  | 67 => ⟨S_, .i32⟩
  | 68 => ⟨S_, .i1⟩
  | 69 => ⟨S1x4096, .i1⟩
  | 70 => ⟨S1x4096, .i1⟩
  | 71 => ⟨S1x4096, .i1⟩
  | 72 => ⟨S1x4096, .i32⟩
  | 73 => ⟨S1x4096, .i32⟩
  | 74 => ⟨S1x4096, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S256x1, .i32⟩
  | 82 => ⟨S256x1, .i32⟩
  | 83 => ⟨S_, .i32⟩
  | 84 => ⟨S256x1, .i32⟩
  | 85 => ⟨S256x1, .i1⟩
  | 86 => ⟨S_, .i32⟩
  | 87 => ⟨S256x1, .i32⟩
  | 88 => ⟨S256x1, .i1⟩
  | 89 => ⟨S_, .i32⟩
  | 90 => ⟨S_, .i1⟩
  | 91 => ⟨S256x1, .i1⟩
  | 92 => ⟨S256x1, .i1⟩
  | 93 => ⟨S256x1, .i1⟩
  | 94 => ⟨S256x1, .i32⟩
  | 95 => ⟨S256x1, .i32⟩
  | 96 => ⟨S256x1, .i32⟩
  | 97 => ⟨S256x4096, .i32⟩
  | 98 => ⟨S256x4096, .i32⟩
  | 99 => ⟨S256x4096, .i1⟩
  | 100 => ⟨S256x4096, .i1⟩
  | 101 => ⟨S1x64x256x4096, .f32⟩
  | 102 => ⟨S_, .f32⟩
  | 103 => ⟨S1x64x256x4096, .f32⟩
  | 104 => ⟨S1x64x256x4096, .f32⟩
  | 105 => ⟨S1x1x256x4096, .i1⟩
  | 106 => ⟨S_, .f32⟩
  | 107 => ⟨S_, .f32⟩
  | 108 => ⟨S1x64x256x4096, .i1⟩
  | 109 => ⟨S1x64x256x4096, .f32⟩
  | 110 => ⟨S1x64x256x4096, .f32⟩
  | 111 => ⟨S_, .f32⟩
  | 112 => ⟨S1x64x256, .f32⟩
  | 113 => ⟨S1x64x256x1, .f32⟩
  | 114 => ⟨S1x64x256x4096, .f32⟩
  | 115 => ⟨S1x64x256x4096, .f32⟩
  | 116 => ⟨S1x64x256x4096, .f32⟩
  | 117 => ⟨S_, .i1⟩
  | 118 => ⟨S256, .i1⟩
  | 119 => ⟨S1x1x256x1, .i1⟩
  | 120 => ⟨S_, .f32⟩
  | 121 => ⟨S1x64x256, .f32⟩
  | 122 => ⟨S1x64x256x1, .f32⟩
  | 123 => ⟨S_, .f32⟩
  | 124 => ⟨S_, .f32⟩
  | 125 => ⟨S1x64x256x1, .i1⟩
  | 126 => ⟨S1x64x256x1, .f32⟩
  | 127 => ⟨S1x64x256x1, .f32⟩
  | _ => ⟨S256x1024, .f32⟩

abbrev hbmTy0_1 (i : Nat) : BufTy := match i % 128 with
  | 0 => ⟨S1x64x256x4096, .f32⟩
  | 1 => ⟨S1x64x256x4096, .f32⟩
  | 2 => ⟨S1x1x256x1, .i1⟩
  | 3 => ⟨S_, .f32⟩
  | 4 => ⟨S_, .f32⟩
  | 5 => ⟨S1x64x256x4096, .i1⟩
  | 6 => ⟨S1x64x256x4096, .f32⟩
  | 7 => ⟨S1x64x256x4096, .f32⟩
  | 8 => ⟨S1x64x128x256, .f32⟩
  | 9 => ⟨S1x256x64x128, .f32⟩
  | 10 => ⟨S1x256x8192, .f32⟩
  | 11 => ⟨S1x256x1024, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_c_1 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_c_1 : Ref sig .tc := ⟨.hbm, 61, rfl⟩
abbrev main_call2_v5 : Ref sig .tc := ⟨.hbm, 62, rfl⟩
abbrev main_call2_v6 : Ref sig .tc := ⟨.hbm, 63, rfl⟩
abbrev main_call2_c_2 : Ref sig .tc := ⟨.hbm, 64, rfl⟩
abbrev main_call2_v7 : Ref sig .tc := ⟨.hbm, 65, rfl⟩
abbrev main_call2_v8 : Ref sig .tc := ⟨.hbm, 66, rfl⟩
abbrev main_call2_c_3 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_v14 : Ref sig .tc := ⟨.hbm, 74, rfl⟩
abbrev main_c_2 : Ref sig .tc := ⟨.hbm, 75, rfl⟩
abbrev main_call3_v0 : Ref sig .tc := ⟨.hbm, 76, rfl⟩
abbrev main_call3_c : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_c_1 : Ref sig .tc := ⟨.hbm, 83, rfl⟩
abbrev main_call3_v5 : Ref sig .tc := ⟨.hbm, 84, rfl⟩
abbrev main_call3_v6 : Ref sig .tc := ⟨.hbm, 85, rfl⟩
abbrev main_call3_c_2 : Ref sig .tc := ⟨.hbm, 86, rfl⟩
abbrev main_call3_v7 : Ref sig .tc := ⟨.hbm, 87, rfl⟩
abbrev main_call3_v8 : Ref sig .tc := ⟨.hbm, 88, rfl⟩
abbrev main_call3_c_3 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩

abbrev nD : Nat := 1
abbrev τ : Topo := Topo.v7x

variable {F : FTy → Type} [FloatOps F]
-- ==== Proof.Text.lean ====
/-
# The kernel's body as loops

The printed body is one straight line: 64 copies started, 32 attention tiles, the projection, the barrier,
three reduce-scatter rounds and three all-gather rounds. Here it is written with the loops the kernel was
unrolled from: `starts` over the pairs (query block, head), `tiles` over the same pairs, then the tail.
`body_text` says that the printed body at the launch's memrefs is this text.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Regions
public import Idealize.ShloMosaic.Lib.Pipeline.Kit
public import Idealize.ShloMosaic.Lib.Tactic

@[expose] public section

noncomputable section

namespace Cert.Attn

open Cert.KernelIdeal Cert.KernelIdeal.Gen
open Idealize.ShloMosaic
open Idealize.ShloMosaic.TcCoe
open Idealize.SL Idealize.SL.Sem

variable {F : FTy → Type} [FloatOps F]

/-! ## The buffers -/

abbrev xM : Memref sig .tc .vmem S256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev oM : Memref sig .tc .vmem S1x256x1024 .f32 := Memref.whole cc0_stg3_0
abbrev kM : Memref sig .tc .hbm S16x4x64x64x128 .f32 := Memref.whole main_arg2
abbrev vM : Memref sig .tc .hbm S16x4x64x64x128 .f32 := Memref.whole main_arg3
abbrev kbM : Memref sig .tc .vmem S4x8x16x64x128 .f32 := Memref.whole cc0_scratch0
abbrev vbM : Memref sig .tc .vmem S4x8x16x64x128 .f32 := Memref.whole cc0_scratch1
abbrev cM : Memref sig .tc .vmem S256x1024 .f32 := Memref.whole cc0_scratch2
abbrev pM : Memref sig .tc .vmem S256x1024 .bf16 := Memref.whole cc0_scratch3
abbrev rM : Memref sig .tc .vmem S224x1024 .bf16 := Memref.whole cc0_scratch4

/-- A (query block, head) pair. -/
abbrev QH : Type := Fin 4 × Fin 8

theorem slot_inb (p : QH) : ∀ a, (![p.1.val, p.2.val, 0, 0, 0] : Fin 5 → Nat) a + S1x1x16x64x128.size a ≤ S4x8x16x64x128.size a := by
  obtain ⟨⟨i, hi⟩, ⟨j, hj⟩⟩ := p
  intro a; fin_cases a <;> simp <;> omega

theorem sem_inb (p : QH) : ∀ a, (![p.1.val, p.2.val] : Fin 2 → Nat) a + S1x1.size a ≤ S4x8.size a := by
  obtain ⟨⟨i, hi⟩, ⟨j, hj⟩⟩ := p
  intro a; fin_cases a <;> simp <;> omega

theorem ctx_inb (p : QH) : ∀ a, (![64 * p.1.val, 128 * p.2.val] : Fin 2 → Nat) a + S64x128.size a ≤ S256x1024.size a := by
  obtain ⟨⟨i, hi⟩, ⟨j, hj⟩⟩ := p
  intro a; fin_cases a <;> simp <;> omega

theorem q_slices (p : QH) : S256x1024.Slices ![64 * p.1.val, 128 * p.2.val] S64x128 :=
  ⟨rfl, fun a => ctx_inb p a⟩

/-- Where the keys (and the values) of query block `p.1` and head `p.2` of device `d` lie in the argument. -/
def srcOff (d : Dev nD) (p : QH) : Fin 5 → Nat :=
  match p.1 with
  | 0 => k0_off1 d (BitVec.ofNat 32 p.2.val)
  | 1 => k0_off2 d (BitVec.ofNat 32 p.2.val)
  | 2 => k0_off3 d (BitVec.ofNat 32 p.2.val)
  | 3 => k0_off4 d (BitVec.ofNat 32 p.2.val)

theorem srcOff_inb (d : Dev nD) (p : QH) : ∀ a, srcOff d p a + S16x1x64x1x128.size a ≤ S16x4x64x64x128.size a := by
  obtain ⟨i, h⟩ := p
  fin_cases i
  · exact k0_off1_inb d h
  · exact k0_off2_inb d h
  · exact k0_off3_inb d h
  · exact k0_off4_inb d h

/-- The offsets in closed form. -/
theorem srcOff_eq (d : Dev nD) (p : QH) : srcOff d p = ![0, p.1.val, 0, 8 * d.val + p.2.val, 0] := by
  obtain ⟨i, h⟩ := p
  fin_cases i
  · exact k0_off1_eq d h
  · exact k0_off2_eq d h
  · exact k0_off3_eq d h
  · exact k0_off4_eq d h

/-- The window of the key argument (or, at `vM`, of the value argument) the pair's copy reads. -/
abbrev srcV (A : Memref sig .tc .hbm S16x4x64x64x128 .f32) (d : Dev nD) (p : QH) : Memref sig .tc .hbm S16x64x128 .f32 :=
  (A.slice (Rect.unit (s := S16x4x64x64x128) (srcOff d p) S16x1x64x1x128.size (srcOff_inb d p)) (fun _ => rfl)).squeeze S16x64x128 squeezes_S16x1x64x1x128_S16x64x128

/-- The pair's slot's rectangle. -/
abbrev slotR (p : QH) : Rect S4x8x16x64x128 := Rect.unit (s := S4x8x16x64x128) ![p.1.val, p.2.val, 0, 0, 0] S1x1x16x64x128.size (slot_inb p)

/-- The pair's slot of a copy buffer. -/
abbrev slotV (B : Memref sig .tc .vmem S4x8x16x64x128 .f32) (p : QH) : Memref sig .tc .vmem S16x64x128 .f32 :=
  (B.slice (slotR p) (fun _ => rfl)).squeeze S16x64x128 squeezes_S1x1x16x64x128_S16x64x128

/-- The pair's DMA semaphore of an array. -/
abbrev slotS (S : DmaSems sig S4x8) (p : QH) : DmaSem sig :=
  ((S.slice (Rect.unit (s := S4x8) ![p.1.val, p.2.val] S1x1.size (sem_inb p))).squeeze S_ squeezes_S1x1_S_).sem

/-- The pair's tile of the context buffer. -/
abbrev ctxR (p : QH) : Rect S256x1024 := Rect.unit (s := S256x1024) ![64 * p.1.val, 128 * p.2.val] S64x128.size (ctx_inb p)

/-- One attention tile: the pair's queries against the pair's 1024 keys, softmax, times the values. -/
def tile (p : QH) (q : FVec F S256x1024 .f32) (k3 v3 : FVec F S16x64x128 .f32) : FVec F S64x128 .f32 :=
  let k2 : FVec F S1024x128 .f32 := shapeCast S1024x128 k3 shapeCasts_S16x64x128_S1024x128
  let v2 : FVec F S1024x128 .f32 := shapeCast S1024x128 v3 shapeCasts_S16x64x128_S1024x128
  let qs : FVec F S64x128 .f32 := extractStridedSlice S64x128 ![64 * p.1.val, 128 * p.2.val] q (q_slices p)
  let s : FVec F S64x1024 .f32 := matmul dot_S64x128_S1024x128_S64x1024_1_1_0_0_n_n none qs k2 (constant S64x1024 .f32 0x00000000#32)
  let m : FVec F S64 .f32 := multiReduction .maximumf [1] S64 s 0xFF800000#32 reduces_S64x1024_S64 (.inl rfl) rfl
  let e : FVec F S64x1024 .f32 := exp (subf s (broadcastTo S64x1024 (shapeCast S64x1 m shapeCasts_S64_S64x1) broadcasts_S64x1_S64x1024))
  let l : FVec F S64 .f32 := multiReduction .add [1] S64 e 0x00000000#32 reduces_S64x1024_S64 (.inl rfl) rfl
  let w : FVec F S64x1024 .f32 := divf e (broadcastTo S64x1024 (shapeCast S64x1 l shapeCasts_S64_S64x1) broadcasts_S64x1_S64x1024)
  shapeCast S64x128 (matmul dot_S64x1024_S1024x128_S64x128_1_0_0_1_n_n none w v2 (constant S64x128 .f32 0x00000000#32)) shapeCasts_S64x128_S64x128

/-! ## The loops -/

abbrev PE (F : FTy → Type) : Type → Type _ := Prog (TpuEff nD τ sig (Elt F) Λ₀ .tc)

/-- Start the two copies of each pair, then go on. -/
def starts (d : Dev nD) : List QH → PE F PUnit → PE F PUnit
  | [], k => k
  | p :: ps, k =>
    .op (.enqueueDma (srcV kM d p) (.here (slotV kbM p)) (.dma (slotS cc0_scratch5 p)) ((View.wordExact_bits rfl).reshape _ _) ((View.wordExact_bits rfl).reshape _ _) ⟨Or.inl rfl, trivial⟩) fun _ =>
    .op (.enqueueDma (srcV vM d p) (.here (slotV vbM p)) (.dma (slotS cc0_scratch6 p)) ((View.wordExact_bits rfl).reshape _ _) ((View.wordExact_bits rfl).reshape _ _) ⟨Or.inl rfl, trivial⟩) fun _ =>
    starts d ps k

/-- Wait for the two copies of each pair, compute its tile and store it, then go on. -/
def tiles (d : Dev nD) (q : FVec F S256x1024 .f32) : List QH → PE F PUnit → PE F PUnit
  | [], k => k
  | p :: ps, k =>
    .op (.waitDma2 (slotS cc0_scratch5 p) (srcV kM d p) (slotV kbM p) ((View.wordExact_bits rfl).reshape _ _) ((View.wordExact_bits rfl).reshape _ _)) fun _ =>
    .op (.waitDma2 (slotS cc0_scratch6 p) (srcV vM d p) (slotV vbM p) ((View.wordExact_bits rfl).reshape _ _) ((View.wordExact_bits rfl).reshape _ _)) fun _ =>
    .op (.load kbM (slotR p).toLoadRect (View.loadsAt_vmem h_S1x1x16x64x128)) fun kv =>
    .op (.load vbM (slotR p).toLoadRect (View.loadsAt_vmem h_S1x1x16x64x128)) fun vv =>
    .op (.load cM (ctxR p).toLoadRect (View.loadsAt_vmem h_S64x128)) fun _ =>
    .op (.store cM (ctxR p) (tile p q (shapeCast S16x64x128 kv shapeCasts_S1x1x16x64x128_S16x64x128) (shapeCast S16x64x128 vv shapeCasts_S1x1x16x64x128_S16x64x128)) Finset.univ (View.stores_vmem_bits_univ h_S64x128 rfl) (.inl rfl)) fun _ =>
    tiles d q ps k

/-- The pairs in the kernel's order. -/
def pairs : List QH :=
  [(0, 0), (0, 1), (0, 2), (0, 3), (0, 4), (0, 5), (0, 6), (0, 7),
   (1, 0), (1, 1), (1, 2), (1, 3), (1, 4), (1, 5), (1, 6), (1, 7),
   (2, 0), (2, 1), (2, 2), (2, 3), (2, 4), (2, 5), (2, 6), (2, 7),
   (3, 0), (3, 1), (3, 2), (3, 3), (3, 4), (3, 5), (3, 6), (3, 7)]

/-! ## The tail -/

abbrev bar : Sem sig := sig.barrier 0 rfl
/-- Member `r` of an array of three DMA semaphores. -/
abbrev arr3 (S : DmaSems sig S3) (r : Fin 3) : DmaSem sig :=
  ((S.slice (Rect.unit (s := S3) ![r.val] S1.size (by intro a; have := r.isLt; fin_cases a; simp; omega))).squeeze S_ squeezes_S1_S_).sem

abbrev ssS (r : Fin 3) : DmaSem sig := arr3 cc0_scratch7 r
abbrev srS (r : Fin 3) : DmaSem sig := arr3 cc0_scratch8 r
abbrev gsS (r : Fin 3) : DmaSem sig := arr3 cc0_scratch9 r
abbrev grS (r : Fin 3) : DmaSem sig := arr3 cc0_scratch10 r

theorem pM_whole : (pM : Memref sig .tc .vmem S256x1024 .bf16).IsWhole := Memref.isWhole_whole _
theorem rM_whole : (rM : Memref sig .tc .vmem S224x1024 .bf16).IsWhole := Memref.isWhole_whole _

/-- `n` rows of 1024 columns. -/
abbrev SR (n : ℕ) : Shape := ⟨2, ![n, 1024]⟩

/-- The `n` rows of the reduced buffer at offset `off`. -/
abbrev pRows (n : ℕ) (off : Fin 2 → ℕ) (h : ∀ a, off a + (SR n).size a ≤ S256x1024.size a) : Memref sig .tc .vmem (SR n) .bf16 :=
  pM.slice (Rect.unit (s := S256x1024) off (SR n).size h) (fun _ => rfl)

/-- The `n` rows of the landing buffer at offset `off`. -/
abbrev lRows (n : ℕ) (off : Fin 2 → ℕ) (h : ∀ a, off a + (SR n).size a ≤ S224x1024.size a) : Memref sig .tc .vmem (SR n) .bf16 :=
  rM.slice (Rect.unit (s := S224x1024) off (SR n).size h) (fun _ => rfl)

/-- The sum of two bf16 tiles in f32, rounded back. -/
def radd {S : Shape} (a b : FVec F S .bf16) : FVec F S .bf16 :=
  truncf .bf16 (addf (extf .f32 a bitsLt_bf16_f32) (extf .f32 b bitsLt_bf16_f32)) bitsLt_bf16_f32

/-- The last step: the reduced buffer, widened, is the result. -/
def fin : PE F PUnit :=
  .op (.load pM (Rect.unit (s := S256x1024) ![0, 0] S256x1024.size inb_S256x1024_S256x1024_0_0).toLoadRect (View.loadsAt_vmem h_S256x1024)) fun v =>
  .op (.load oM (Rect.unit (s := S1x256x1024) ![0, 0, 0] S1x256x1024.size inb_S1x256x1024_S1x256x1024_0_0_0).toLoadRect (View.loadsAt_vmem h_S1x256x1024)) fun _ =>
  .op (.store oM (Rect.unit (s := S1x256x1024) ![0, 0, 0] S1x256x1024.size inb_S1x256x1024_S1x256x1024_0_0_0) (k0_pay69 v) Finset.univ (View.stores_vmem_bits_univ h_S1x256x1024 rfl) (.inl rfl)) fun _ =>
  .ret ⟨⟩

/-- One all-gather round: send `n` rows of the own buffer to the same rows of `d'`'s, wait for both copies. -/
def gather (d' : Dev nD) (n : ℕ) (off : Fin 2 → ℕ) (h : ∀ a, off a + (SR n).size a ≤ S256x1024.size a) (sS sR : DmaSem sig)
    (w : (pRows n off h).view.WordExact) (k : PE F PUnit) : PE F PUnit :=
  .op (.enqueueDma (pRows n off h) (.remote (Dev.tc d') (pRows n off h) (.dma sS)) (.dma sR) w w ⟨⟨rfl, Or.inl rfl⟩, trivial⟩) fun _ =>
  .op (.waitDma2 sS (pRows n off h) (pRows n off h) w w) fun _ =>
  .op (.waitDma2 sR (pRows n off h) (pRows n off h) w w) fun _ => k

/-- One reduce-scatter round: send `n` rows of the own buffer into `d'`'s landing rows, wait for both copies, add what
    landed into the `n` kept rows. -/
def scatter (d' : Dev nD) (n : ℕ) (so ko lo : Fin 2 → ℕ) (hso : ∀ a, so a + (SR n).size a ≤ S256x1024.size a)
    (hko : ∀ a, ko a + (SR n).size a ≤ S256x1024.size a) (hlo : ∀ a, lo a + (SR n).size a ≤ S224x1024.size a) (sS sR : DmaSem sig)
    (w : (pRows n so hso).view.WordExact) (w' : (lRows n lo hlo).view.WordExact)
    (ld : pM.view.LoadsAt (Rect.unit (s := S256x1024) ko (SR n).size hko).toLoadRect)
    (ld' : rM.view.LoadsAt (Rect.unit (s := S224x1024) lo (SR n).size hlo).toLoadRect)
    (sc : (SR n).ShapeCasts (SR n))
    (st : (pM.access (Rect.unit (s := S256x1024) ko (SR n).size hko)).Stores Finset.univ) (k : PE F PUnit) : PE F PUnit :=
  .op (.enqueueDma (pRows n so hso) (.remote (Dev.tc d') (lRows n lo hlo) (.dma sS)) (.dma sR) w w' ⟨⟨rfl, Or.inl rfl⟩, trivial⟩) fun _ =>
  .op (.waitDma2 sS (lRows n lo hlo) (pRows n so hso) w' w) fun _ =>
  .op (.waitDma2 sR (pRows n so hso) (lRows n lo hlo) w w') fun _ =>
  .op (.load (s := S256x1024) (e := .bf16) pM (Rect.unit (s := S256x1024) ko (SR n).size hko).toLoadRect ld) fun (a : FVec F (SR n) .bf16) =>
  .op (.load (s := S224x1024) (e := .bf16) rM (Rect.unit (s := S224x1024) lo (SR n).size hlo).toLoadRect ld') fun (b : FVec F (SR n) .bf16) =>
  .op (.load (s := S256x1024) (e := .bf16) pM (Rect.unit (s := S256x1024) ko (SR n).size hko).toLoadRect ld) fun _ =>
  .op (.store pM (Rect.unit (s := S256x1024) ko (SR n).size hko) (shapeCast (SR n) (radd (S := SR n) a b) sc) Finset.univ st (.inl rfl)) fun _ => k

/-- Scatter round 0. -/
def scatter0 (d : Dev nD) (k : PE F PUnit) : PE F PUnit :=
  scatter (⟨k0_dev4 d, k0_dev4_lt d⟩ : Dev nD) 128 (k0_off5 d) (k0_off6 d) ![0, 0] (k0_off5_inb d) (k0_off6_inb d)
    inb_S224x1024_S128x1024_0_0 (ssS 0) (srS 0) (pM_whole.wordExact_slice rfl _ (k0_off5_wordsbf16 d))
    (rM_whole.wordExact_slice rfl _ wordsbf16_S224x1024_S128x1024_0_0) (View.loadsAt_vmem h_S128x1024) (View.loadsAt_vmem h_S128x1024)
    shapeCasts_S128x1024_S128x1024
    (View.stores_vmem h_S128x1024 (pM_whole.storeExact_slice rfl _ (k0_off6_packedbf16 d)) (fun _ => rfl)) k

/-- Scatter round 1. -/
def scatter1 (d : Dev nD) (k : PE F PUnit) : PE F PUnit :=
  scatter (⟨k0_dev5 d, k0_dev5_lt d⟩ : Dev nD) 64 (k0_off7 d) (k0_off8 d) ![128, 0] (k0_off7_inb d) (k0_off8_inb d)
    inb_S224x1024_S64x1024_128_0 (ssS 1) (srS 1) (pM_whole.wordExact_slice rfl _ (k0_off7_wordsbf16 d))
    (rM_whole.wordExact_slice rfl _ wordsbf16_S224x1024_S64x1024_128_0) (View.loadsAt_vmem h_S64x1024) (View.loadsAt_vmem h_S64x1024)
    shapeCasts_S64x1024_S64x1024
    (View.stores_vmem h_S64x1024 (pM_whole.storeExact_slice rfl _ (k0_off8_packedbf16 d)) (fun _ => rfl)) k

/-- Scatter round 2. -/
def scatter2 (d : Dev nD) (k : PE F PUnit) : PE F PUnit :=
  scatter (⟨k0_dev6 d, k0_dev6_lt d⟩ : Dev nD) 32 (k0_off9 d) (k0_off10 d) ![192, 0] (k0_off9_inb d) (k0_off10_inb d)
    inb_S224x1024_S32x1024_192_0 (ssS 2) (srS 2) (pM_whole.wordExact_slice rfl _ (k0_off9_wordsbf16 d))
    (rM_whole.wordExact_slice rfl _ wordsbf16_S224x1024_S32x1024_192_0) (View.loadsAt_vmem h_S32x1024) (View.loadsAt_vmem h_S32x1024)
    shapeCasts_S32x1024_S32x1024
    (View.stores_vmem h_S32x1024 (pM_whole.storeExact_slice rfl _ (k0_off10_packedbf16 d)) (fun _ => rfl)) k

/-- Gather round 0. -/
def gather0 (d : Dev nD) (k : PE F PUnit) : PE F PUnit :=
  gather (⟨k0_dev7 d, k0_dev7_lt d⟩ : Dev nD) 32 (k0_off11 d) (k0_off11_inb d) (gsS 0) (grS 0)
    (pM_whole.wordExact_slice rfl _ (k0_off11_wordsbf16 d)) k

/-- Gather round 1. -/
def gather1 (d : Dev nD) (k : PE F PUnit) : PE F PUnit :=
  gather (⟨k0_dev8 d, k0_dev8_lt d⟩ : Dev nD) 64 (k0_off12 d) (k0_off12_inb d) (gsS 1) (grS 1)
    (pM_whole.wordExact_slice rfl _ (k0_off12_wordsbf16 d)) k

/-- Gather round 2. -/
def gather2 (d : Dev nD) (k : PE F PUnit) : PE F PUnit :=
  gather (⟨k0_dev9 d, k0_dev9_lt d⟩ : Dev nD) 128 (k0_off13 d) (k0_off13_inb d) (gsS 2) (grS 2)
    (pM_whole.wordExact_slice rfl _ (k0_off13_wordsbf16 d)) k

/-- The three barrier signals and the wait for three. -/
def barrierP (d : Dev nD) (k : PE F PUnit) : PE F PUnit :=
  .op (.semSignal ((⟨k0_dev1 d, k0_dev1_lt d⟩ : Dev nD), .tc) bar (1#32).toInt) fun _ =>
  .op (.semSignal ((⟨k0_dev2 d, k0_dev2_lt d⟩ : Dev nD), .tc) bar (1#32).toInt) fun _ =>
  .op (.semSignal ((⟨k0_dev3 d, k0_dev3_lt d⟩ : Dev nD), .tc) bar (1#32).toInt) fun _ =>
  .op (.semWait bar (3#32).toInt) fun _ => k

/-- The projection: context times the output weights, rounded into the buffer to be reduced. -/
def project (k : PE F PUnit) : PE F PUnit :=
  .op (.load cM (Rect.unit (s := S256x1024) ![0, 0] S256x1024.size inb_S256x1024_S256x1024_0_0).toLoadRect (View.loadsAt_vmem h_S256x1024)) fun a =>
  .op (.load woM (Rect.unit (s := S1024x1024) ![0, 0] S1024x1024.size inb_S1024x1024_S1024x1024_0_0).toLoadRect (View.loadsAt_vmem h_S1024x1024)) fun b =>
  .op (.load pM (Rect.unit (s := S256x1024) ![0, 0] S256x1024.size inb_S256x1024_S256x1024_0_0).toLoadRect (View.loadsAt_vmem h_S256x1024)) fun _ =>
  .op (.store pM (Rect.unit (s := S256x1024) ![0, 0] S256x1024.size inb_S256x1024_S256x1024_0_0) (k0_pay64 a b) Finset.univ (View.stores_vmem h_S256x1024 (pM_whole.storeExact_slice rfl _ packedbf16_S256x1024_S256x1024_0_0) (fun _ => rfl)) (.inl rfl)) fun _ => k

/-- Everything after the attention tiles. -/
def tail (d : Dev nD) : PE F PUnit :=
  project <| barrierP d <| scatter0 d <| scatter1 d <| scatter2 d <| gather0 d <| gather1 d <| gather2 d fin

/-- The kernel's body. -/
def text : PE F PUnit :=
  .op .deviceId fun d =>
  starts d pairs <|
  .op (.load xM (Rect.unit (s := S256x1024) ![0, 0] S256x1024.size inb_S256x1024_S256x1024_0_0).toLoadRect (View.loadsAt_vmem h_S256x1024)) fun x =>
  .op (.load wqM (Rect.unit (s := S1024x1024) ![0, 0] S1024x1024.size inb_S1024x1024_S1024x1024_0_0).toLoadRect (View.loadsAt_vmem h_S1024x1024)) fun w =>
  tiles d (k0_pay1 x w) pairs (tail d)

/-- The printed body, at the launch's memrefs, is `text`. -/
theorem body_text (t : Fin cfg0.N) : bodyAt0 (F := F) t = text := by
  chain_rfl

end Cert.Attn
-- ==== Proof.Geo.lean ====
/-
# Where the buffers are touched, and with what

The partners of the three butterfly rounds, the rows each device holds after each round, the element sets of the
windows the body copies, loads and stores, and the contents (as functions of the launch memory) found there.
-/
module

public import proofs.«01_k».proof.Proof.Text

@[expose] public section

noncomputable section

namespace Cert.Attn

open Cert.KernelIdeal Cert.KernelIdeal.Gen
open Idealize.ShloMosaic
open Idealize.ShloMosaic.TcCoe
open Idealize.SL Idealize.SL.Sem

variable {F : FTy → Type} [FloatOps F]

/-! ## The butterfly -/

set_option backward.proofsInPublic true in
/-- The partner of round `r`: the device whose number differs in the bit `4 >> r`. -/
def pr (r : Fin 3) (c : Dev nD) : Dev nD := ⟨c.val ^^^ (4 >>> r.val), by revert r c; decide⟩

theorem pr_pr (r : Fin 3) (c : Dev nD) : pr r (pr r c) = c := by revert r c; decide
theorem pr_ne (r : Fin 3) (c : Dev nD) : pr r c ≠ c := by revert r c; decide

theorem pr_injective (r : Fin 3) : Function.Injective (pr r) := fun a b h => by rw [← pr_pr r a, h, pr_pr]

/-- The partner map is its own inverse. -/
def prE (r : Fin 3) : Dev nD ≃ Dev nD := ⟨pr r, pr r, pr_pr r, pr_pr r⟩

/-- The number of rows a round moves. -/
def hn (r : Fin 3) : ℕ := 128 >>> r.val
/-- The first row of a round's slot of the landing buffer. -/
def lo (r : Fin 3) : ℕ := ![0, 128, 192] r
/-- The first of the `256 >> k` rows device `c` holds after `k` rounds. -/
def base (k : ℕ) (c : Dev nD) : ℕ := (256 >>> k) * (c.val / (8 >>> k))

theorem hn_eq (r : Fin 3) : hn r = 256 >>> (r.val + 1) := by revert r; decide

theorem base_le (r : Fin 3) (c : Dev nD) : base (r.val + 1) c + hn r ≤ 256 := by revert r c; decide
theorem lo_le (r : Fin 3) : lo r + hn r ≤ 224 := by revert r; decide

theorem base_split (r : Fin 3) (c : Dev nD) :
    (base (r.val + 1) c = base r.val c ∧ base (r.val + 1) (pr r c) = base r.val c + hn r)
      ∨ (base (r.val + 1) (pr r c) = base r.val c ∧ base (r.val + 1) c = base r.val c + hn r) := by
  revert r c; decide

/-- The devices and offsets the printed body computes, in these terms. -/
theorem dev1_eq (d : Dev nD) : (⟨k0_dev1 d, k0_dev1_lt d⟩ : Dev nD) = pr 0 d := by revert d; decide +kernel
theorem dev2_eq (d : Dev nD) : (⟨k0_dev2 d, k0_dev2_lt d⟩ : Dev nD) = pr 1 d := by revert d; decide +kernel
theorem dev3_eq (d : Dev nD) : (⟨k0_dev3 d, k0_dev3_lt d⟩ : Dev nD) = pr 2 d := by revert d; decide +kernel
theorem dev4_eq (d : Dev nD) : (⟨k0_dev4 d, k0_dev4_lt d⟩ : Dev nD) = pr 0 d := by revert d; decide +kernel
theorem dev5_eq (d : Dev nD) : (⟨k0_dev5 d, k0_dev5_lt d⟩ : Dev nD) = pr 1 d := by revert d; decide +kernel
theorem dev6_eq (d : Dev nD) : (⟨k0_dev6 d, k0_dev6_lt d⟩ : Dev nD) = pr 2 d := by revert d; decide +kernel
theorem dev7_eq (d : Dev nD) : (⟨k0_dev7 d, k0_dev7_lt d⟩ : Dev nD) = pr 2 d := by revert d; decide +kernel
theorem dev8_eq (d : Dev nD) : (⟨k0_dev8 d, k0_dev8_lt d⟩ : Dev nD) = pr 1 d := by revert d; decide +kernel
theorem dev9_eq (d : Dev nD) : (⟨k0_dev9 d, k0_dev9_lt d⟩ : Dev nD) = pr 0 d := by revert d; decide +kernel

theorem off5_eq (d : Dev nD) : k0_off5 d = ![base 1 (pr 0 d), 0] := by revert d; decide +kernel
theorem off6_eq (d : Dev nD) : k0_off6 d = ![base 1 d, 0] := by revert d; decide +kernel
theorem off7_eq (d : Dev nD) : k0_off7 d = ![base 2 (pr 1 d), 0] := by revert d; decide +kernel
theorem off8_eq (d : Dev nD) : k0_off8 d = ![base 2 d, 0] := by revert d; decide +kernel
theorem off9_eq (d : Dev nD) : k0_off9 d = ![base 3 (pr 2 d), 0] := by revert d; decide +kernel
theorem off10_eq (d : Dev nD) : k0_off10 d = ![base 3 d, 0] := by revert d; decide +kernel
theorem off11_eq (d : Dev nD) : k0_off11 d = ![base 3 d, 0] := by revert d; decide +kernel
theorem off12_eq (d : Dev nD) : k0_off12 d = ![base 2 d, 0] := by revert d; decide +kernel
theorem off13_eq (d : Dev nD) : k0_off13 d = ![base 1 d, 0] := by revert d; decide +kernel

/-! ## Element sets -/

/-- The elements of rows `a ≤ i < a + n` of a buffer of 1024 columns. -/
def rowsOf (R a n : ℕ) : Finset (SR R).Idx := Finset.univ.filter fun i => a ≤ (i 0).val ∧ (i 0).val < a + n

theorem mem_rowsOf {R a n : ℕ} {i : (SR R).Idx} : i ∈ rowsOf R a n ↔ a ≤ (i 0).val ∧ (i 0).val < a + n := by
  simp [rowsOf]

/-- What device `c` holds of the reduced buffer after `k` rounds. -/
abbrev Rg (k : ℕ) (c : Dev nD) : Finset (SR 256).Idx := rowsOf 256 (base k c) (256 >>> k)

/-- The slot of the landing buffer a round lands in. -/
abbrev Sl (r : Fin 3) : Finset (SR 224).Idx := rowsOf 224 (lo r) (hn r)

theorem Rg_zero (c : Dev nD) : Rg 0 c = Finset.univ := by
  ext i
  simp only [mem_rowsOf, Finset.mem_univ, iff_true]
  have h : base 0 c = 0 := by revert c; decide
  have := (i 0).isLt
  rw [h]
  exact ⟨Nat.zero_le _, by simpa using this⟩

theorem Rg_disjoint (r : Fin 3) (c : Dev nD) : Disjoint (Rg (r.val + 1) c) (Rg (r.val + 1) (pr r c)) := by
  rw [Finset.disjoint_left]
  intro i h h'
  rw [mem_rowsOf, ← hn_eq] at h h'
  rcases base_split r c with ⟨h1, h2⟩ | ⟨h1, h2⟩ <;> omega

theorem Rg_split (r : Fin 3) (c : Dev nD) : Rg r.val c = Rg (r.val + 1) c ∪ Rg (r.val + 1) (pr r c) := by
  ext i
  have hr : 256 >>> r.val = 2 * hn r := by revert r; decide
  rw [Finset.mem_union, mem_rowsOf, mem_rowsOf, mem_rowsOf, ← hn_eq, hr]
  rcases base_split r c with ⟨h1, h2⟩ | ⟨h1, h2⟩ <;> omega

theorem Sl_disjoint (r r' : Fin 3) (h : r ≠ r') : Disjoint (Sl r) (Sl r') := by
  rw [Finset.disjoint_left]
  intro i hi hi'
  rw [mem_rowsOf] at hi hi'
  revert h
  fin_cases r <;> fin_cases r' <;> simp [lo, hn] at hi hi' ⊢ <;> omega

theorem Sl_union : (Finset.univ : Finset (Fin 3)).biUnion Sl = Finset.univ := by
  ext i
  simp only [Finset.mem_biUnion, Finset.mem_univ, true_and, iff_true, mem_rowsOf]
  have h : (i 0).val < 224 := (i 0).isLt
  by_cases h1 : (i 0).val < 128
  · exact ⟨0, by simp [lo], by simp [lo, hn]; omega⟩
  by_cases h2 : (i 0).val < 192
  · exact ⟨1, by simp [lo]; omega, by simp [lo, hn]; omega⟩
  · exact ⟨2, by simp [lo]; omega, by simp [lo, hn]; omega⟩

/-- The window of `n` whole rows at row `a` covers those rows. -/
theorem pRows_set {n a : ℕ} (h) : (pRows n ![a, 0] h).view.set = rowsOf 256 a n := by
  ext i
  rw [show (pRows n ![a, 0] h).view.set = _ from View.set_slice_whole cc0_scratch3 _, Rect.mem_set_unit, mem_rowsOf]
  constructor
  · intro H; exact H 0
  · intro H b
    fin_cases b
    · exact H
    · exact ⟨Nat.zero_le _, show (i 1).val < 0 + 1024 by have h : (i 1).val < 1024 := (i 1).isLt; omega⟩

theorem lRows_set {n a : ℕ} (h) : (lRows n ![a, 0] h).view.set = rowsOf 224 a n := by
  ext i
  rw [show (lRows n ![a, 0] h).view.set = _ from View.set_slice_whole cc0_scratch4 _, Rect.mem_set_unit, mem_rowsOf]
  constructor
  · intro H; exact H 0
  · intro H b
    fin_cases b
    · exact H
    · exact ⟨Nat.zero_le _, show (i 1).val < 0 + 1024 by have h : (i 1).val < 1024 := (i 1).isLt; omega⟩

end Cert.Attn
-- ==== Proof.Contents.lean ====
/-
# The contents, as functions of the launch memory

What each device computes at each stage, written as whole-buffer functions, and the facts that the body's copies,
loads and stores read and leave exactly these.
-/
module

public import proofs.«01_k».proof.Proof.Geo
public import Idealize.ShloMosaic.Lib.Pointwise.Index
public import Idealize.ShloMosaic.Lib.Pipeline.Value

@[expose] public section

noncomputable section

namespace Cert.Attn

open Cert.KernelIdeal Cert.KernelIdeal.Gen
open Idealize.ShloMosaic
open Idealize.ShloMosaic.TcCoe
open Idealize.SL Idealize.SL.Sem

variable {F : FTy → Type} [FloatOps F]
variable (m : (ℓ : Loc nD τ sig) → Buf (Elt F) ℓ)

/-! ## Before the butterfly -/

/-- The blocks the launch copies into the staging buffers. -/
def xv (c : Dev nD) : (cc0_stg0_0 : Ref sig .tc).ty.Contents (Elt F) := (win0_0.blk (0 : Fin 1)).view.read (Elt F) (m ((c : Thread nD τ).loc main_arg0))
def wqv (c : Dev nD) : (cc0_stg1_0 : Ref sig .tc).ty.Contents (Elt F) := (win0_1.blk (0 : Fin 1)).view.read (Elt F) (m ((c : Thread nD τ).loc main_arg1))
def wov (c : Dev nD) : (cc0_stg2_0 : Ref sig .tc).ty.Contents (Elt F) := (win0_2.blk (0 : Fin 1)).view.read (Elt F) (m ((c : Thread nD τ).loc main_arg4))

/-- The keys and the values of a pair. -/
def kt (c : Dev nD) (p : QH) : FVec F S16x64x128 .f32 := (srcV kM c p).view.read (Elt F) (m ((c : Thread nD τ).loc main_arg2))
def vt (c : Dev nD) (p : QH) : FVec F S16x64x128 .f32 := (srcV vM c p).view.read (Elt F) (m ((c : Thread nD τ).loc main_arg3))

/-- The scaled queries. -/
def qv (c : Dev nD) : FVec F S256x1024 .f32 := k0_pay1 (xv m c) (wqv m c)
/-- The attention tile of a pair. -/
def tv (c : Dev nD) (p : QH) : FVec F S64x128 .f32 := tile p (qv m c) (kt m c p) (vt m c p)

/-- The pair whose tile holds a context element, and the element's place in the tile. -/
def pairOf (i : (SR 256).Idx) : QH :=
  (⟨(i 0).val / 64, by have h : (i 0).val < 256 := (i 0).isLt; omega⟩, ⟨(i 1).val / 128, by have h : (i 1).val < 1024 := (i 1).isLt; omega⟩)
def within (i : (SR 256).Idx) : S64x128.Idx :=
  ix2 ⟨(i 0).val % 64, Nat.mod_lt _ (by decide)⟩ ⟨(i 1).val % 128, Nat.mod_lt _ (by decide)⟩

/-- The context buffer once every tile is stored. -/
def cx (c : Dev nD) : FVec F S256x1024 .f32 := fun i => tv m c (pairOf i) (within i)

/-- The device's share of the projection. -/
def part (c : Dev nD) : FVec F S256x1024 .bf16 := k0_pay64 (cx m c) (wov m c)

/-! ## The butterfly -/

/-- The buffer being reduced, after `k` rounds, as if each round summed every row. -/
def acc : ℕ → Dev nD → FVec F S256x1024 .bf16
  | 0, c => part m c
  | k + 1, c => radd (acc k c) (acc k (pr (Fin.ofNat 3 k) c))

theorem acc_succ (r : Fin 3) (c : Dev nD) : acc m (r.val + 1) c = radd (acc m r.val c) (acc m r.val (pr r c)) := by
  have h : Fin.ofNat 3 r.val = r := by revert r; decide
  show radd _ (acc m r.val (pr (Fin.ofNat 3 r.val) c)) = _
  rw [h]

/-- The reduced buffer: each row at the device that holds it after the three rounds. -/
def red : FVec F S256x1024 .bf16 := fun i => acc m 3 ⟨(i 0).val / 32, by have h : (i 0).val < 256 := (i 0).isLt; show _ < 8; omega⟩ i

/-- The result. -/
def outv : (cc0_stg3_0 : Ref sig .tc).ty.Contents (Elt F) := k0_pay69 (red m)

theorem red_own (c : Dev nD) {i : (SR 256).Idx} (h : i ∈ Rg 3 c) : red m i = acc m 3 c i := by
  rw [mem_rowsOf] at h
  have hb : base 3 c = 32 * c.val := by clear h; revert c; decide
  have hc : (⟨(i 0).val / 32, by have h : (i 0).val < 256 := (i 0).isLt; show _ < 8; omega⟩ : Dev nD) = c := by
    apply Fin.ext
    show (i 0).val / 32 = c.val
    have h3 : 256 >>> 3 = 32 := rfl
    omega
  show acc m 3 _ i = _
  rw [hc]

/-- What has landed in a round's slot. -/
def lnd (r : Fin 3) (c : Dev nD) : FVec F ⟨2, ![224, 1024]⟩ .bf16 := fun i =>
  acc m r.val (pr r c) (ix2 ⟨(base (r.val + 1) c + ((i 0).val - lo r)) % 256, Nat.mod_lt _ (by decide)⟩ (i 1))

theorem radd_apply {S S' : Shape} (a b : FVec F S .bf16) (a' b' : FVec F S' .bf16) (x : S.Idx) (x' : S'.Idx) (ha : a x = a' x') (hb : b x = b' x') :
    radd a b x = radd a' b' x' := by
  unfold radd truncf addf extf
  rw [ha, hb]

/-! ## What the windows read -/

theorem pRows_emb {n a : ℕ} (h) (x : (SR n).Idx) (hn : ∀ x : (SR n).Idx, a + (x 0).val < 256) :
    (pRows n ![a, 0] h).view.emb x = ix2 ⟨a + (x 0).val, hn x⟩ (x 1) := by
  funext b
  apply Fin.ext
  fin_cases b
  · show a + 1 * (x 0).val = a + (x 0).val
    omega
  · show 0 + 1 * (x 1).val = (x 1).val
    omega

theorem lRows_emb {n a : ℕ} (h) (x : (SR n).Idx) (hn : ∀ x : (SR n).Idx, a + (x 0).val < 224) :
    (lRows n ![a, 0] h).view.emb x = ix2 ⟨a + (x 0).val, hn x⟩ (x 1) := by
  funext b
  apply Fin.ext
  fin_cases b
  · show a + 1 * (x 0).val = a + (x 0).val
    omega
  · show 0 + 1 * (x 1).val = (x 1).val
    omega

theorem pRows_read {n a : ℕ} (h) (f : FVec F S256x1024 .bf16) (x : (SR n).Idx) :
    (pRows n ![a, 0] h).view.read (Elt F) f x = f ((pRows n ![a, 0] h).view.emb x) := rfl

theorem lRows_read {n a : ℕ} (h) (f : FVec F S224x1024 .bf16) (x : (SR n).Idx) :
    (lRows n ![a, 0] h).view.read (Elt F) f x = f ((lRows n ![a, 0] h).view.emb x) := rfl

theorem row_lt {r : Fin 3} (c : Dev nD) (x : (SR (hn r)).Idx) : base (r.val + 1) c + (x 0).val < 256 := by
  have := base_le r c; have h : (x 0).val < hn r := (x 0).isLt; omega
theorem slot_lt {r : Fin 3} (x : (SR (hn r)).Idx) : lo r + (x 0).val < 224 := by
  have := lo_le r; have h : (x 0).val < hn r := (x 0).isLt; omega

/-- What is in a slot after the landing, in terms of the kept rows. -/
theorem lnd_emb (r : Fin 3) (c : Dev nD) (h h') (x : (SR (hn r)).Idx) :
    lnd m r c ((lRows (hn r) ![lo r, 0] h').view.emb x) = acc m r.val (pr r c) ((pRows (hn r) ![base (r.val + 1) c, 0] h).view.emb x) := by
  rw [pRows_emb _ _ (row_lt _), lRows_emb _ _ slot_lt]
  show acc m r.val (pr r c) (ix2 ⟨(base (r.val + 1) c + (lo r + (x 0).val - lo r)) % 256, _⟩ (x 1)) = _
  congr 2
  apply Fin.ext
  have := row_lt (r := r) c x
  show (base (r.val + 1) c + (lo r + (x 0).val - lo r)) % 256 = base (r.val + 1) c + (x 0).val
  omega

/-- What device `c` sends in scatter round `r` is what its partner's slot is to hold. -/
theorem sent_eq (r : Fin 3) (c : Dev nD) (h h') (x : (SR (hn r)).Idx) :
    (pRows (hn r) ![base (r.val + 1) (pr r c), 0] h).view.read (Elt F) (acc m r.val c) x
      = lnd m r (pr r c) ((lRows (hn r) ![lo r, 0] h').view.emb x) := by
  rw [pRows_read, lnd_emb m r (pr r c) h h' x, pr_pr]

/-- What scatter round `r` stores into the kept rows. -/
theorem summed_eq (r : Fin 3) (c : Dev nD) (h h') (x : (SR (hn r)).Idx) :
    radd (F := F) (S := SR (hn r)) ((pRows (hn r) ![base (r.val + 1) c, 0] h).view.read (Elt F) (acc m r.val c)) ((lRows (hn r) ![lo r, 0] h').view.read (Elt F) (lnd m r c)) x
      = acc m (r.val + 1) c ((pRows (hn r) ![base (r.val + 1) c, 0] h).view.emb x) := by
  rw [acc_succ]
  exact radd_apply _ _ _ _ _ _ rfl ((lRows_read h' _ x).trans (lnd_emb m r c h h' x))

end Cert.Attn
-- ==== Proof.Sched.lean ====
/-
# The protocol between the devices

The semaphores the devices signal one another on, what each signal hands over, the order of the waits, and what each
device owes its partners at launch.
-/
module

public import proofs.«01_k».proof.Proof.Contents
public import Idealize.ShloMosaic.Lib.Rounds
public import Idealize.ShloMosaic.Lib.Transfers

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's, the devices' and the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans (uEmb : UEmb UU (MT nD τ sig Unit (Elt F) ℕ UU ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ)

/-! ## The channels -/

/-- A semaphore the devices signal one another on: the barrier, or one of the four of a round — scatter send, scatter
    receive, gather send, gather receive. A gather round is numbered like the scatter round it undoes. -/
abbrev Ch : Type := Unit ⊕ (Fin 4 × Fin 3)
abbrev B : Ch := .inl ()
abbrev X (k : Fin 4) (r : Fin 3) : Ch := .inr (k, r)

def xS : Fin 4 → Fin 3 → DmaSem sig
  | 0, r => ssS r
  | 1, r => srS r
  | 2, r => gsS r.rev
  | 3, r => grS r.rev

def csem : Ch → SemLoc sig
  | .inl _ => .reg bar
  | .inr (k, r) => .dma (xS k r)

def chs : List Ch := B :: ((List.finRange 4).product (List.finRange 3)).map Sum.inr

/-- The channel a semaphore serves, if any. -/
def role (sm : SemLoc sig) : Option Ch := chs.find? fun ch => decide (csem ch = sm)

theorem role_csem (ch : Ch) : role (csem ch) = some ch := by revert ch; decide +kernel

theorem csem_injective : Function.Injective csem := fun a b h => Option.some.inj ((role_csem a).symm.trans (h ▸ role_csem b))

abbrev cell (c : Dev nD) (ch : Ch) : GSem nD τ sig := ((c : Thread nD τ), csem ch)

theorem cell_injective : Function.Injective (fun x : Dev nD × Ch => cell x.1 x.2) := by
  rintro ⟨c, ch⟩ ⟨c', ch'⟩ h
  have h1 : c = c' := congrArg (fun g : GSem nD τ sig => g.1.1) h
  have h2 : ch = ch' := csem_injective (congrArg Prod.snd h)
  rw [h1, h2]

theorem lo_inb (r : Fin 3) : ∀ a, (![lo r, 0] : Fin 2 → ℕ) a + (SR (hn r)).size a ≤ S224x1024.size a := by
  intro a
  fin_cases a
  · exact lo_le r
  · exact Nat.le_refl 1024

theorem ro_inb (r : Fin 3) (c : Dev nD) : ∀ a, (![base (r.val + 1) c, 0] : Fin 2 → ℕ) a + (SR (hn r)).size a ≤ S256x1024.size a := by
  intro a
  fin_cases a
  · exact base_le r c
  · exact Nat.le_refl 1024

/-- What a round's copy credits. -/
def credit (r : Fin 3) : ℕ := (lRows (hn r) ![lo r, 0] (lo_inb r)).view.dmaCredit

theorem credit_pos (r : Fin 3) : 0 < credit r := View.dmaCredit_pos _ (by revert r; decide)

def amt : Ch → ℕ
  | .inl _ => 1
  | .inr (_, r) => credit r

theorem amt_pos (ch : Ch) : 0 < amt ch := by
  rcases ch with _ | ⟨k, r⟩
  · exact Nat.one_pos
  · exact credit_pos r

/-! ## What a signal hands over -/

/-- The elements `S` of the buffer to be reduced, on device `c`, at contents `f`. -/
def pPts (c : Dev nD) (S : Finset (SR 256).Idx) (f : FVec F S256x1024 .bf16) : sProp 𝕄 :=
  ((c : Thread nD τ).loc cc0_scratch3) ↦[S]{fullShare} f

/-- Round `r`'s slot of the landing buffer on device `c`. -/
def lPts (c : Dev nD) (r : Fin 3) (f : FVec F S224x1024 .bf16) : sProp 𝕄 :=
  ((c : Thread nD τ).loc cc0_scratch4) ↦[Sl r]{fullShare} f

instance pPts_storable (c : Dev nD) (S) (f) : BI.Storable (upEmb : UEmb _ 𝕄) (pPts (F := F) c S f) := by unfold pPts; infer_instance
instance lPts_storable (c : Dev nD) (r) (f) : BI.Storable (upEmb : UEmb _ 𝕄) (lPts (F := F) c r f) := by unfold lPts; infer_instance

/-- Duty `r` of a barrier is paid by the partner of round `r`, with its landing slot. -/
def barPay (c : Dev nD) (r : Fin 3) : sProp 𝕄 := iprop(∃ f, lPts (pr r c) r f)
/-- A scatter round's receive hands the landed slot, and the partner's rows it was read from. -/
def rsPay (r : Fin 3) (c : Dev nD) : sProp 𝕄 :=
  iprop(lPts c r (lnd m r c) ∗ pPts (pr r c) (Rg (r.val + 1) c) (acc m r.val (pr r c)))
/-- A gather round's send gives the sent rows back, its receive hands the partner's. -/
def gsPay (r : Fin 3) (c : Dev nD) : sProp 𝕄 := pPts c (Rg (r.val + 1) c) (red m)
def grPay (r : Fin 3) (c : Dev nD) : sProp 𝕄 := pPts c (Rg (r.val + 1) (pr r c)) (red m)

def payX (c : Dev nD) (r : Fin 3) : Fin 4 → sProp 𝕄
  | 0 => iprop(emp)
  | 1 => rsPay m r c
  | 2 => gsPay m r c
  | 3 => grPay m r c

def payOf (c : Dev nD) : Ch → Fin 3 → sProp 𝕄
  | .inl _, d => barPay c d
  | .inr (k, r), _ => payX m c r k

instance payX_storable (c : Dev nD) (r : Fin 3) (k : Fin 4) : BI.Storable (upEmb : UEmb _ 𝕄) (payX m c r k) := by
  unfold payX rsPay gsPay grPay
  split <;> infer_instance

instance payOf_storable (c : Dev nD) (ch : Ch) (d : Fin 3) : BI.Storable (upEmb : UEmb _ 𝕄) (payOf m c ch d) := by
  rcases ch with _ | ⟨k, r⟩
  · show BI.Storable _ (barPay c d)
    unfold barPay; infer_instance
  · exact payX_storable m c r k

def dut : Ch → Finset (Fin 3)
  | .inl _ => Finset.univ
  | .inr _ => {0}

/-- One round, round 0: a barrier has three duties of one unit, every other channel one duty of the copy's credit. -/
def Rd : Rounds.Schedule (GSem nD τ sig) (Fin 3) 𝕄 where
  duties g r := if r = 0 ∧ g.1.2 = .tc then (match role g.2 with | none => ∅ | some ch => dut ch) else ∅
  unitless _ := False
  amount g _ _ := match role g.2 with | none => 1 | some ch => amt ch
  payload g _ d := match role g.2 with | none => iprop(emp) | some ch => payOf m g.1.1 ch d
  amount_pos g _ _ _ := by
    split
    · exact Nat.one_pos
    · exact amt_pos _

instance Rd_storable (g : GSem nD τ sig) (r : ℕ) (d : Fin 3) : BI.Storable (upEmb : UEmb _ 𝕄) ((Rd (F := F) m).payload g r d) := by
  show BI.Storable upEmb (match role g.2 with | none => iprop(emp) | some ch => payOf m g.1.1 ch d)
  split <;> infer_instance

section Table
variable (c : Dev nD)

theorem duties_cell (ch : Ch) : (Rd m).duties (cell c ch) 0 = dut ch := by
  show (if (0 : ℕ) = 0 ∧ (cell c ch).1.2 = .tc then (match role (csem ch) with | none => ∅ | some ch => dut ch) else ∅) = _
  rw [if_pos ⟨rfl, rfl⟩, role_csem]

theorem duties_later (g : GSem nD τ sig) : ∀ r, 1 ≤ r → (Rd m).duties g r = ∅ :=
  fun r hr => if_neg fun h => by omega

theorem amount_cell (ch : Ch) (d : Fin 3) : (Rd m).amount (cell c ch) 0 d = amt ch := by
  show (match role (csem ch) with | none => 1 | some ch => amt ch) = _
  rw [role_csem]

theorem payload_cell (ch : Ch) (d : Fin 3) : (Rd m).payload (cell c ch) 0 d = payOf m c ch d := by
  show (match role (csem ch) with | none => iprop(emp) | some ch => payOf m c ch d) = _
  rw [role_csem]

theorem expect_bar : (Rd m).expect (cell c B) 0 = 3 := by
  unfold Schedule.expect Schedule.amountOf
  rw [duties_cell, Finset.sum_congr rfl fun d _ => amount_cell m c B d, Finset.sum_const]
  rfl

theorem expect_X (k : Fin 4) (r : Fin 3) : (Rd m).expect (cell c (X k r)) 0 = credit r := by
  unfold Schedule.expect Schedule.amountOf
  rw [duties_cell]
  show Finset.sum {0} _ = _
  rw [Finset.sum_singleton, amount_cell]
  rfl

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- A barrier's round hands the three partners' slots. -/
theorem rest_bar : bigSep ((Rd m).duties (cell c B) 0 \ ∅) (fun d => (Rd m).payload (cell c B) 0 d)
    = iprop(barPay c 0 ∗ barPay c 1 ∗ barPay c 2) := by
  rw [Finset.sdiff_empty, duties_cell]
  show bigSep Finset.univ _ = _
  rw [bigSep_fin3, payload_cell, payload_cell, payload_cell]
  rfl

theorem rest_X (k : Fin 4) (r : Fin 3) : bigSep ((Rd m).duties (cell c (X k r)) 0 \ ∅) (fun d => (Rd m).payload (cell c (X k r)) 0 d) = payX m c r k := by
  rw [Finset.sdiff_empty, duties_cell]
  show bigSep {0} _ = _
  rw [bigSep_singleton, payload_cell]
  rfl

end Table

/-! ## What each device owes, and the levels -/

/-- The signals a device owes, in the order it gives them: (the partner's round, the channel at the partner). -/
def ent : List (Fin 3 × Ch) :=
  [(0, B), (1, B), (2, B), (0, X 1 0), (1, X 1 1), (2, X 1 2), (2, X 3 2), (1, X 3 1), (0, X 3 0)]

def tal (c : Dev nD) : List (Fin 3 × Ch) → CellTallies nD τ sig Unit
  | [] => 0
  | e :: es => tal c es + tallyAt (cell (pr e.1 c) e.2) () (amt e.2)

def O₀ (c : Dev nD) : CellTallies nD τ sig Unit := tal c ent

def lev : Ch → ℕ
  | .inl _ => 1
  | .inr (1, r) => 2 + r.val
  | .inr (3, r) => 7 - r.val
  | .inr _ => 0

/-- A semaphore's level. -/
def slv (sm : SemLoc sig) : ℕ := match role sm with | none => 0 | some ch => lev ch

theorem slv_csem (ch : Ch) : slv (csem ch) = lev ch := by unfold slv; rw [role_csem]

def L (g : GSem nD τ sig) : Finset Unit := if g.1.2 = .tc then {()} else ∅
def lv (g : GSem nD τ sig) (_ : Unit) : ℕ := slv g.2

theorem L_of_ne (g : GSem nD τ sig) (h : g.1.2 ≠ .tc) : L g = ∅ := if_neg h
theorem L_tc (c : Dev nD) (sm : SemLoc sig) : L ((c : Thread nD τ), sm) = {()} := if_pos rfl

theorem tal_pos {c : Dev nD} {g : GSem nD τ sig} {u : Unit} : ∀ es : List (Fin 3 × Ch), 0 < tal c es g u → ∃ e ∈ es, g = cell (pr e.1 c) e.2
  | [], h => absurd h (Nat.lt_irrefl 0)
  | e :: es, h => by
    unfold tal at h
    rw [Pi.add_apply, Finsupp.add_apply, tallyAt_apply] at h
    by_cases hg : g = cell (pr e.1 c) e.2 ∧ u = ()
    · exact ⟨e, List.mem_cons_self, hg.1⟩
    · rw [if_neg hg, Nat.add_zero] at h
      obtain ⟨e', he', h'⟩ := tal_pos es h
      exact ⟨e', List.mem_cons_of_mem _ he', h'⟩

/-- A device may wait on a semaphore of a level below every signal it owes. -/
theorem mayWait (c : Dev nD) (sm : SemLoc sig) (es : List (Fin 3 × Ch)) (h : ∀ e ∈ es, slv sm < lev e.2) :
    (levAts L lv : sProp 𝕄) ⊢ MayWait (c : Thread nD τ) sm () (tal c es) :=
  MayOwe.of_cut (L := L) (lev := lv) (slv sm) (fun p hp => by rw [Finset.mem_singleton.mp hp, L_tc]; exact Finset.mem_singleton_self _)
    (fun g u hg => by obtain ⟨e, _, rfl⟩ := tal_pos es hg; exact Finset.mem_singleton_self _)
    (fun p hp => by rw [Finset.mem_singleton.mp hp]; exact le_rfl)
    (fun g u hg => by
      obtain ⟨e, he, rfl⟩ := tal_pos es hg
      show slv sm < slv (csem e.2)
      rw [slv_csem]; exact h e he)

/-- Nothing is waited on between devices at the level of the local copies. -/
theorem ent_pos : ∀ e ∈ ent, 0 < lev e.2 := by decide

theorem role_slotK (p : QH) : role (.dma (slotS cc0_scratch5 p)) = none := by revert p; decide +kernel
theorem role_slotV (p : QH) : role (.dma (slotS cc0_scratch6 p)) = none := by revert p; decide +kernel

theorem slv_slotK (p : QH) : slv (.dma (slotS cc0_scratch5 p)) = 0 := by unfold slv; rw [role_slotK]
theorem slv_slotV (p : QH) : slv (.dma (slotS cc0_scratch6 p)) = 0 := by unfold slv; rw [role_slotV]

end Cert.Attn
-- ==== Proof.Comm.lean ====
/-
# The barrier and the six rounds

One statement for the barrier, one for a scatter round and one for a gather round, each about the loop text of
`Text.lean`; the three rounds of each kind are its instances.
-/
module

public import proofs.«01_k».proof.Proof.Sched

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What the devices know and hold -/

/-- Every channel's invariant, and that each has reached round 0. -/
def records (K : Dev nD × Ch → ℕ) : sProp 𝕄 :=
  iprop((bigSep Finset.univ fun x : Dev nD × Ch => cellInv ER (Rd m) (K x) (cell x.1 x.2))
    ∗ bigSep Finset.univ fun x : Dev nD × Ch => reached ER (cell x.1 x.2) 0)

instance records_persistent (K : Dev nD × Ch → ℕ) : BI.Persistent (records m K) := by unfold records; infer_instance

theorem one_inv (K : Dev nD × Ch → ℕ) (c : Dev nD) (ch : Ch) :
    (bigSep Finset.univ fun x : Dev nD × Ch => (cellInv ER (Rd m) (K x) (cell x.1 x.2) : sProp 𝕄)) ⊢ cellInv ER (Rd m) (K (c, ch)) (cell c ch) :=
  bigSep_elim (Finset.mem_univ (c, ch))
theorem one_reached (c : Dev nD) (ch : Ch) :
    (bigSep Finset.univ fun x : Dev nD × Ch => (reached ER (cell x.1 x.2) 0 : sProp 𝕄)) ⊢ reached ER (cell c ch) 0 :=
  bigSep_elim (Finset.mem_univ (c, ch))

theorem rec_inv (K : Dev nD × Ch → ℕ) (c : Dev nD) (ch : Ch) : records m K ⊢ cellInv ER (Rd m) (K (c, ch)) (cell c ch) := by
  unfold records
  iintro ⟨H, -⟩
  iapply (one_inv m K c ch)
  iexact H

theorem rec_reached (K : Dev nD × Ch → ℕ) (c : Dev nD) (ch : Ch) : records m K ⊢ reached ER (cell c ch) 0 := by
  unfold records
  iintro ⟨-, H⟩
  iapply (one_reached (F := F) c ch)
  iexact H

/-- A device's position at, and credit for, one of its channels. -/
def posn (c : Dev nD) (ch : Ch) : sProp 𝕄 := atPos ER (cell c ch) 0 ∅ 0

/-- What a scatter (`a = 0`) or gather (`a = 2`) round uses of the protocol. -/
def kit (a b : Fin 4) (r : Fin 3) (c : Dev nD) : sProp 𝕄 :=
  iprop(posn c (X a r) ∗ posn c (X b r) ∗ cred (tallyAt (cell c (X b r)) () (credit r))
    ∗ dutyTok ER (cell c (X a r)) 0 0 ∗ dutyTok ER (cell (pr r c) (X b r)) 0 0)

/-- What the barrier uses of it. -/
def barKit (c : Dev nD) : sProp 𝕄 :=
  iprop(posn c B ∗ cred (tallyAt (cell c B) () 3)
    ∗ dutyTok ER (cell (pr 0 c) B) 0 0 ∗ dutyTok ER (cell (pr 1 c) B) 0 1 ∗ dutyTok ER (cell (pr 2 c) B) 0 2)

/-- Every copy of a round credits the same. -/
theorem lRows_credit (r : Fin 3) (off h) : (lRows (hn r) off h).view.dmaCredit = credit r := rfl
theorem pRows_credit (r : Fin 3) (off h) : (pRows (hn r) off h).view.dmaCredit = credit r := rfl

/-! ## Waiting -/

section Waits
variable (K : Dev nD × Ch → ℕ) (c : Dev nD)

/-- A wait for a round's copy hands its payload and closes the channel. -/
theorem wp_wait_X (k : Fin 4) (r : Fin 3) {α : Type} {Q : α → sProp 𝕄} {O : CellTallies nD τ sig Unit} {W : Waits sig Unit}
    {sp sp' : Space} {s' s : Shape} {e' e : EltTy} {κ' : Kind} {srcw : Memref sig .tc sp' s' e'} {dstw : Memref sig κ' sp s e}
    {hsrc : srcw.view.WordExact} {hdst : dstw.view.WordExact} {kk : PUnit → Prog (TpuEff nD τ sig (Elt F) Λ₀ .tc) α}
    (hN : dstw.view.dmaCredit = credit r) :
    iprop(records m K ∗ cred (tallyAt (cell c (X k r)) () (credit r)) ∗ owes (c : Thread nD τ) O W
        ∗ MayWait (c : Thread nD τ) (.dma (xS k r)) () O ∗ posn c (X k r))
      ⊢ iprop(((payX m c r k ∗ semVal (cell c (X k r)) 0 ∗ owes (c : Thread nD τ) O (insert (SemLoc.dma (xS k r), ()) W))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (xS k r) srcw dstw hsrc hdst) kk) Q) := by
  unfold posn
  iintro ⟨#HR, Hc, HO, Hm, Hat⟩ Hk
  rw [← hN]
  iapply (Rounds.wp_wait_rest_token 𝒱₀ ER (Rd m) (c : Thread nD τ) none (κ := K (c, X k r))
      (wpE_waitDma2_eq 𝒱₀ (c : Thread nD τ) none Set.univ) (Set.mem_univ _) () (O := O) (W := W) (R := 0) (m := 0) (T := ∅)
      (by rw [Nat.zero_add, hN]; exact (expect_X m c k r).symm)) $$ [Hc HO Hm Hat]
  · isplitr; · iapply (rec_inv m K c (X k r)); iexact HR
    isplitl [Hc]; · iexact Hc
    isplitl [HO]; · iexact HO
    isplitl [Hm]; · iexact Hm
    iexact Hat
  iintro ⟨HO, Hat, -, Hp⟩
  ihave Hp := (Entails.of_eq (show bigSep ((Rd m).duties ((c : Thread nD τ), SemLoc.dma (xS k r)) 0 \ ∅) (fun d => (Rd m).payload ((c : Thread nD τ), SemLoc.dma (xS k r)) 0 d) = payX m c r k from rest_X m c k r)) $$ Hp
  imod (Rounds.cell_close ER (Rd m) (Set.mem_univ (K (c, X k r))) (fun h => h) (R := 0 + 1) (duties_later m (cell c (X k r)))) $$ [Hat] with Hz
  · isplitr; · iapply (rec_inv m K c (X k r)); iexact HR
    iexact Hat
  iapply Hk
  isplitl [Hp]; · iexact Hp
  isplitl [Hz]; · iexact Hz
  iexact HO

end Waits

/-! ## Rows held through the windows -/

theorem pPts_rows (r : Fin 3) (c d : Dev nD) (h) (f : FVec F S256x1024 .bf16) :
    ((pRows (hn r) ![base (r.val + 1) d, 0] h).view.loc (c : Thread nD τ) ↦[(pRows (hn r) ![base (r.val + 1) d, 0] h).view.set]{fullShare} f : sProp 𝕄)
      = pPts c (Rg (r.val + 1) d) f := by
  unfold pPts
  rw [pRows_set, show Rg (r.val + 1) d = rowsOf 256 (base (r.val + 1) d) (hn r) from by rw [hn_eq]]

theorem lPts_rows (r : Fin 3) (c : Dev nD) (h) (f : FVec F S224x1024 .bf16) :
    ((lRows (hn r) ![lo r, 0] h).view.loc (c : Thread nD τ) ↦[(lRows (hn r) ![lo r, 0] h).view.set]{fullShare} f : sProp 𝕄)
      = lPts c r f := by
  unfold lPts
  rw [lRows_set]

theorem pPts_congr (r : Fin 3) (c d : Dev nD) (h) {f g : FVec F S256x1024 .bf16}
    (hfg : ∀ x, f ((pRows (hn r) ![base (r.val + 1) d, 0] h).view.emb x) = g ((pRows (hn r) ![base (r.val + 1) d, 0] h).view.emb x)) :
    (pPts c (Rg (r.val + 1) d) f : sProp 𝕄) = pPts c (Rg (r.val + 1) d) g := by
  rw [← pPts_rows r c d h, ← pPts_rows r c d h]
  refine pointsTo_congr fun i hi => ?_
  obtain ⟨x, -, rfl⟩ := Finset.mem_map.mp hi
  exact hfg x

/-- What a scatter copy leaves in the partner's slot. -/
theorem landed_eq (r : Fin 3) (c : Dev nD) (h h') (fd : FVec F S224x1024 .bf16) :
    ((lRows (hn r) ![lo r, 0] h').view.loc ((pr r c : Dev nD) : Thread nD τ) ↦[(lRows (hn r) ![lo r, 0] h').view.set]{fullShare}
        ((lRows (hn r) ![lo r, 0] h').view.write (Elt F) fd ((pRows (hn r) ![base (r.val + 1) (pr r c), 0] h).view.read (Elt F) (acc m r.val c)) Finset.univ) : sProp 𝕄)
      = lPts (pr r c) r (lnd m r (pr r c)) := by
  rw [← lPts_rows r (pr r c) h']
  refine pointsTo_congr fun i hi => ?_
  obtain ⟨x, -, rfl⟩ := Finset.mem_map.mp hi
  exact (View.write_emb_of_mem _ _ (Finset.mem_univ x)).trans (sent_eq m r c h h' x)

/-- What a scatter round's store leaves in the kept rows. -/
theorem stored_eq (r : Fin 3) (c : Dev nD) (h h') (sc : (SR (hn r)).ShapeCasts (SR (hn r))) :
    (pPts c (Rg (r.val + 1) c) ((pM.access (Rect.unit (s := S256x1024) ![base (r.val + 1) c, 0] (SR (hn r)).size h)).write (Elt F) (acc m r.val c)
      (shapeCast (SR (hn r)) (radd (F := F) (S := SR (hn r)) ((pRows (hn r) ![base (r.val + 1) c, 0] h).view.read (Elt F) (acc m r.val c))
        ((lRows (hn r) ![lo r, 0] h').view.read (Elt F) (lnd m r c))) sc) Finset.univ) : sProp 𝕄)
      = pPts c (Rg (r.val + 1) c) (acc m (r.val + 1) c) := by
  rw [shapeCast_self]
  refine pPts_congr r c c h fun x => ?_
  exact (View.write_emb_of_mem (v := pM.access (Rect.unit (s := S256x1024) ![base (r.val + 1) c, 0] (SR (hn r)).size h)) _ _ (Finset.mem_univ x)).trans
    (summed_eq m r c h h' x)

/-- What a gather copy leaves in the partner's rows. -/
theorem gathered_eq (r : Fin 3) (c d : Dev nD) (h) (fd : FVec F S256x1024 .bf16) :
    ((pRows (hn r) ![base (r.val + 1) c, 0] h).view.loc (d : Thread nD τ) ↦[(pRows (hn r) ![base (r.val + 1) c, 0] h).view.set]{fullShare}
        ((pRows (hn r) ![base (r.val + 1) c, 0] h).view.write (Elt F) fd ((pRows (hn r) ![base (r.val + 1) c, 0] h).view.read (Elt F) (red m)) Finset.univ) : sProp 𝕄)
      = pPts d (Rg (r.val + 1) c) (red m) := by
  rw [pPts_rows r d c h]
  exact pPts_congr r d c h fun x => View.write_emb_of_mem _ _ (Finset.mem_univ x)

theorem pPts_split (r : Fin 3) (c d : Dev nD) (f : FVec F S256x1024 .bf16) :
    (pPts d (Rg r.val c) f : sProp 𝕄) ⊣⊢ iprop(pPts d (Rg (r.val + 1) c) f ∗ pPts d (Rg (r.val + 1) (pr r c)) f) := by
  unfold pPts
  rw [Rg_split r c]
  exact pointsTo_union (Rg_disjoint r c)

/-! ## A scatter round -/

section Rounds
variable (K : Dev nD × Ch → ℕ) (c : Dev nD)

set_option maxHeartbeats 2000000 in
theorem wp_scatter (r : Fin 3) (es : List (Fin 3 × Ch)) (hes : ∀ e ∈ es, lev (X 1 r) < lev e.2) {d' : Dev nD} (hd : d' = pr r c)
    {so ko : Fin 2 → ℕ} (hso : so = ![base (r.val + 1) (pr r c), 0]) (hko : ko = ![base (r.val + 1) c, 0])
    {h1 h2 h3 w w' ld ld' sc st} {kk : PE F PUnit} {Q : PUnit → sProp 𝕄} (W : Waits sig Unit) :
    iprop(records m K ∗ levAts L lv ∗ kit 0 1 r c ∗ pPts c (Rg r.val c) (acc m r.val c) ∗ barPay c r
        ∗ owes (c : Thread nD τ) (tal c ((r, X 1 r) :: es)) W)
      ⊢ iprop(((pPts c (Rg (r.val + 1) c) (acc m (r.val + 1) c) ∗ lPts c r (lnd m r c) ∗ pPts (pr r c) (Rg (r.val + 1) c) (acc m r.val (pr r c))
              ∗ (semVal (cell c (X 0 r)) 0 ∗ semVal (cell c (X 1 r)) 0) ∗ ∃ W, owes (c : Thread nD τ) (tal c es) W)
            -∗ wp frame (wpE (defs₀ (F := F)) 𝒱₀ (c : Thread nD τ) none) Set.univ kk Q)
          -∗ wp frame (wpE (defs₀ (F := F)) 𝒱₀ (c : Thread nD τ) none) Set.univ
            (scatter d' (hn r) so ko ![lo r, 0] h1 h2 h3 (xS 0 r) (xS 1 r) w w' ld ld' sc st kk) Q) := by
  subst hd hso hko
  unfold scatter kit barPay
  iintro ⟨#HR, #Hlev, ⟨Ha0, Ha1, Hc1, Ht0, Ht1⟩, Hp, ⟨%fl, Hl⟩, HO⟩ Hk
  ihave Hp := (pPts_split r c c (acc m r.val c)).1 $$ Hp
  icases Hp with ⟨Hkeep, Hsend⟩
  ihave Hsend := (Entails.of_eq (pPts_rows r c (pr r c) h1 (acc m r.val c)).symm) $$ Hsend
  ihave Hl := (Entails.of_eq (lPts_rows r (pr r c) h3 fl).symm) $$ Hl
  iapply (Rounds.wp_send_landing_pointsTo 𝒱₀ ER (Rd m) (c : Thread nD τ) none (c' := ((pr r c : Dev nD) : Thread nD τ))
      (src := pRows (hn r) ![base (r.val + 1) (pr r c), 0] h1) (dst := lRows (hn r) ![lo r, 0] h3)
      (sS := .dma (xS 0 r)) (sem := .dma (xS 1 r)) (q := fullShare) (fs := acc m r.val c) (fd := fl)
      (κ₁ := K (c, X 0 r)) (κ₂ := K (pr r c, X 1 r)) (r₁ := 0) (r₂ := 0) (d₁ := 0) (d₂ := 0)
      (by rw [show ((c : Thread nD τ), SemLoc.dma (xS 0 r)) = cell c (X 0 r) from rfl, duties_cell]; exact Finset.mem_singleton_self _)
      (by rw [show (((pr r c : Dev nD) : Thread nD τ), SemLoc.dma (xS 1 r)) = cell (pr r c) (X 1 r) from rfl, duties_cell]; exact Finset.mem_singleton_self _)
      () () (credit r) (lRows_credit r _ h3) (amount_cell m c (X 0 r) 0) (amount_cell m (pr r c) (X 1 r) 0) (tal c es) rfl (W := W)
      (by rw [show ((c : Thread nD τ), SemLoc.dma (xS 0 r)) = cell c (X 0 r) from rfl, payload_cell]; exact BI.Entails.refl _)
      (by
        rw [show (((pr r c : Dev nD) : Thread nD τ), SemLoc.dma (xS 1 r)) = cell (pr r c) (X 1 r) from rfl, payload_cell]
        show _ ⊢ rsPay m r (pr r c)
        unfold rsPay
        rw [landed_eq m r c h1 h3 fl, pPts_rows r c (pr r c) h1, pr_pr])) $$ [Hsend Hl HO Ht0 Ht1]
  · isplitr; · iapply (rec_inv m K c (X 0 r)); iexact HR
    isplitr; · iapply (rec_inv m K (pr r c) (X 1 r)); iexact HR
    isplitl [Hsend]; · iexact Hsend
    isplitl [Hl]; · iexact Hl
    isplitl [HO]; · iexact HO
    isplitl [Ht0]; · iexact Ht0
    isplitr; · iapply (rec_reached m K c (X 0 r)); iexact HR
    isplitl [Ht1]; · iexact Ht1
    iapply (rec_reached m K (pr r c) (X 1 r)); iexact HR
  iintro ⟨Hc0, HO⟩
  iapply (wp_wait_X m K c 0 r (O := tal c es) (W := W) (pRows_credit r _ h1)) $$ [Hc0 HO Ha0]
  · isplitr; · iexact HR
    isplitl [Hc0]; · iexact Hc0
    isplitl [HO]; · iexact HO
    isplitr
    · iapply (mayWait c (.dma (xS 0 r)) es (fun e he => by
        rw [show SemLoc.dma (xS 0 r) = csem (X 0 r) from rfl, slv_csem]; exact lt_of_le_of_lt (Nat.zero_le _) (hes e he)))
      iexact Hlev
    iexact Ha0
  iintro ⟨-, Hz0, HO⟩
  iapply (wp_wait_X m K c 1 r (O := tal c es) (lRows_credit r _ h3)) $$ [Hc1 HO Ha1]
  · isplitr; · iexact HR
    isplitl [Hc1]; · iexact Hc1
    isplitl [HO]; · iexact HO
    isplitr
    · iapply (mayWait c (.dma (xS 1 r)) es (fun e he => by
        rw [show SemLoc.dma (xS 1 r) = csem (X 1 r) from rfl, slv_csem]; exact hes e he))
      iexact Hlev
    iexact Ha1
  iintro ⟨Hpay, Hz1, HO⟩
  ihave Hpay := (Entails.of_eq (show payX m c r 1 = iprop(lPts c r (lnd m r c) ∗ pPts (pr r c) (Rg (r.val + 1) c) (acc m r.val (pr r c))) from rfl)) $$ Hpay
  icases Hpay with ⟨Hl, Hpp⟩
  ihave Hkeep := (Entails.of_eq (pPts_rows r c c h2 (acc m r.val c)).symm) $$ Hkeep
  ihave Hl := (Entails.of_eq (lPts_rows r c h3 (lnd m r c)).symm) $$ Hl
  iapply (wp_load_rect 𝒱₀ (c : Thread nD τ) none Set.univ (m := pM) (r := Rect.unit (s := S256x1024) ![base (r.val + 1) c, 0] (SR (hn r)).size h2) (Finset.Subset.refl _)) $$ Hkeep
  iintro Hkeep
  iapply (wp_load_rect 𝒱₀ (c : Thread nD τ) none Set.univ (m := rM) (r := Rect.unit (s := S224x1024) ![lo r, 0] (SR (hn r)).size h3) (Finset.Subset.refl _)) $$ Hl
  iintro Hl
  iapply (wp_load_rect 𝒱₀ (c : Thread nD τ) none Set.univ (m := pM) (r := Rect.unit (s := S256x1024) ![base (r.val + 1) c, 0] (SR (hn r)).size h2) (Finset.Subset.refl _)) $$ Hkeep
  iintro Hkeep
  iapply (wp_store 𝒱₀ (c : Thread nD τ) none Set.univ (m := pM) (r := Rect.unit (s := S256x1024) ![base (r.val + 1) c, 0] (SR (hn r)).size h2) (Mk := Finset.univ)
      (S := (pM.access (Rect.unit (s := S256x1024) ![base (r.val + 1) c, 0] (SR (hn r)).size h2)).set) (Finset.Subset.refl _)) $$ Hkeep
  iintro Hkeep
  ihave Hkeep := (Entails.of_eq ((pPts_rows r c c h2 _).trans (stored_eq m r c h2 h3 sc))) $$ Hkeep
  ihave Hl := (Entails.of_eq (lPts_rows r c h3 (lnd m r c))) $$ Hl
  iapply Hk
  isplitl [Hkeep]; · iexact Hkeep
  isplitl [Hl]; · iexact Hl
  isplitl [Hpp]; · iexact Hpp
  isplitl [Hz0 Hz1]
  · isplitl [Hz0] <;> iassumption
  iexists _; iexact HO

/-! ## A gather round -/

set_option maxHeartbeats 2000000 in
theorem wp_gather (r : Fin 3) (es : List (Fin 3 × Ch)) (hes : ∀ e ∈ es, lev (X 3 r) < lev e.2) {d' : Dev nD} (hd : d' = pr r c)
    {off : Fin 2 → ℕ} (hoff : off = ![base (r.val + 1) c, 0])
    {h w} {kk : PE F PUnit} {Q : PUnit → sProp 𝕄} (W : Waits sig Unit) (fd : FVec F S256x1024 .bf16) :
    iprop(records m K ∗ levAts L lv ∗ kit 2 3 r c ∗ pPts c (Rg (r.val + 1) c) (red m) ∗ pPts (pr r c) (Rg (r.val + 1) c) fd
        ∗ owes (c : Thread nD τ) (tal c ((r, X 3 r) :: es)) W)
      ⊢ iprop(((pPts c (Rg r.val c) (red m) ∗ (semVal (cell c (X 2 r)) 0 ∗ semVal (cell c (X 3 r)) 0) ∗ ∃ W, owes (c : Thread nD τ) (tal c es) W)
            -∗ wp frame (wpE (defs₀ (F := F)) 𝒱₀ (c : Thread nD τ) none) Set.univ kk Q)
          -∗ wp frame (wpE (defs₀ (F := F)) 𝒱₀ (c : Thread nD τ) none) Set.univ (gather d' (hn r) off h (xS 2 r) (xS 3 r) w kk) Q) := by
  subst hd hoff
  unfold gather kit
  iintro ⟨#HR, #Hlev, ⟨Ha0, Ha1, Hc1, Ht0, Ht1⟩, Hp, Hd, HO⟩ Hk
  ihave Hp := (Entails.of_eq (pPts_rows r c c h (red m)).symm) $$ Hp
  ihave Hd := (Entails.of_eq (pPts_rows r (pr r c) c h fd).symm) $$ Hd
  iapply (Rounds.wp_send_pointsTo 𝒱₀ ER (Rd m) (c : Thread nD τ) none (c' := ((pr r c : Dev nD) : Thread nD τ))
      (src := pRows (hn r) ![base (r.val + 1) c, 0] h) (dst := pRows (hn r) ![base (r.val + 1) c, 0] h)
      (sS := .dma (xS 2 r)) (sem := .dma (xS 3 r)) (q := fullShare) (fs := red m) (fd := fd)
      (κ₁ := K (c, X 2 r)) (κ₂ := K (pr r c, X 3 r)) (r₁ := 0) (r₂ := 0) (d₁ := 0) (d₂ := 0)
      (by rw [show ((c : Thread nD τ), SemLoc.dma (xS 2 r)) = cell c (X 2 r) from rfl, duties_cell]; exact Finset.mem_singleton_self _)
      (by rw [show (((pr r c : Dev nD) : Thread nD τ), SemLoc.dma (xS 3 r)) = cell (pr r c) (X 3 r) from rfl, duties_cell]; exact Finset.mem_singleton_self _)
      () () (credit r) (pRows_credit r _ h) (amount_cell m c (X 2 r) 0) (amount_cell m (pr r c) (X 3 r) 0) (tal c es) rfl (W := W)
      (by
        rw [show ((c : Thread nD τ), SemLoc.dma (xS 2 r)) = cell c (X 2 r) from rfl, payload_cell]
        exact Entails.of_eq (pPts_rows r c c h (red m)))
      (by
        rw [show (((pr r c : Dev nD) : Thread nD τ), SemLoc.dma (xS 3 r)) = cell (pr r c) (X 3 r) from rfl, payload_cell]
        show _ ⊢ grPay m r (pr r c)
        unfold grPay
        rw [gathered_eq m r c (pr r c) h fd, pr_pr])) $$ [Hp Hd HO Ht0 Ht1]
  · isplitr; · iapply (rec_inv m K c (X 2 r)); iexact HR
    isplitr; · iapply (rec_inv m K (pr r c) (X 3 r)); iexact HR
    isplitl [Hp]; · iexact Hp
    isplitl [Hd]; · iexact Hd
    isplitl [HO]; · iexact HO
    isplitl [Ht0]; · iexact Ht0
    isplitr; · iapply (rec_reached m K c (X 2 r)); iexact HR
    isplitl [Ht1]; · iexact Ht1
    iapply (rec_reached m K (pr r c) (X 3 r)); iexact HR
  iintro ⟨Hc0, HO⟩
  iapply (wp_wait_X m K c 2 r (O := tal c es) (W := W) (pRows_credit r _ h)) $$ [Hc0 HO Ha0]
  · isplitr; · iexact HR
    isplitl [Hc0]; · iexact Hc0
    isplitl [HO]; · iexact HO
    isplitr
    · iapply (mayWait c (.dma (xS 2 r)) es (fun e he => by
        rw [show SemLoc.dma (xS 2 r) = csem (X 2 r) from rfl, slv_csem]; exact lt_of_le_of_lt (Nat.zero_le _) (hes e he)))
      iexact Hlev
    iexact Ha0
  iintro ⟨Hmine, Hz0, HO⟩
  iapply (wp_wait_X m K c 3 r (O := tal c es) (pRows_credit r _ h)) $$ [Hc1 HO Ha1]
  · isplitr; · iexact HR
    isplitl [Hc1]; · iexact Hc1
    isplitl [HO]; · iexact HO
    isplitr
    · iapply (mayWait c (.dma (xS 3 r)) es (fun e he => by
        rw [show SemLoc.dma (xS 3 r) = csem (X 3 r) from rfl, slv_csem]; exact hes e he))
      iexact Hlev
    iexact Ha1
  iintro ⟨Htheirs, Hz1, HO⟩
  iapply Hk
  isplitl [Hmine Htheirs]
  · iapply (pPts_split r c c (red m)).2
    isplitl [Hmine]
    · iapply (Entails.of_eq (show payX m c r 2 = pPts c (Rg (r.val + 1) c) (red m) from rfl)); iexact Hmine
    · iapply (Entails.of_eq (show payX m c r 3 = pPts c (Rg (r.val + 1) (pr r c)) (red m) from rfl)); iexact Htheirs
  isplitl [Hz0 Hz1]
  · isplitl [Hz0] <;> iassumption
  iexists _; iexact HO

end Rounds

end Cert.Attn
-- ==== Proof.Tail.lean ====
/-
# From the attention's context to the result

The projection, the barrier, the three scatter rounds, the three gather rounds and the last store, run one after the
other from the context buffer to the result's staging buffer.
-/
module

public import proofs.«01_k».proof.Proof.Comm
public import Idealize.ShloMosaic.Lib.Ring

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The rounds by number -/

def scat : Fin 3 → Dev nD → PE F PUnit → PE F PUnit
  | 0 => scatter0
  | 1 => scatter1
  | 2 => scatter2

def gath : Fin 3 → Dev nD → PE F PUnit → PE F PUnit
  | 0 => gather2
  | 1 => gather1
  | 2 => gather0

theorem tail_eq (d : Dev nD) : tail (F := F) d
    = project (barrierP d (scat 0 d (scat 1 d (scat 2 d (gath 2 d (gath 1 d (gath 0 d fin))))))) := rfl

section
variable (K : Dev nD × Ch → ℕ) (c : Dev nD)

theorem wp_scat (r : Fin 3) {es₀ es : List (Fin 3 × Ch)} (h₀ : es₀ = (r, X 1 r) :: es) (hes : ∀ e ∈ es, lev (X 1 r) < lev e.2)
    {kk : PE F PUnit} {Q : PUnit → sProp 𝕄} (W : Waits sig Unit) :
    iprop(records m K ∗ levAts L lv ∗ kit 0 1 r c ∗ pPts c (Rg r.val c) (acc m r.val c) ∗ barPay c r
        ∗ owes (c : Thread nD τ) (tal c es₀) W)
      ⊢ iprop(((pPts c (Rg (r.val + 1) c) (acc m (r.val + 1) c) ∗ lPts c r (lnd m r c) ∗ pPts (pr r c) (Rg (r.val + 1) c) (acc m r.val (pr r c))
              ∗ (semVal (cell c (X 0 r)) 0 ∗ semVal (cell c (X 1 r)) 0) ∗ ∃ W, owes (c : Thread nD τ) (tal c es) W)
            -∗ wp frame (wpE (defs₀ (F := F)) 𝒱₀ (c : Thread nD τ) none) Set.univ kk Q)
          -∗ wp frame (wpE (defs₀ (F := F)) 𝒱₀ (c : Thread nD τ) none) Set.univ (scat r c kk) Q) := by
  subst h₀
  match r, hes with
  | 0, hes => exact wp_scatter m K c 0 es hes (dev4_eq c) (off5_eq c) (off6_eq c) W
  | 1, hes => exact wp_scatter m K c 1 es hes (dev5_eq c) (off7_eq c) (off8_eq c) W
  | 2, hes => exact wp_scatter m K c 2 es hes (dev6_eq c) (off9_eq c) (off10_eq c) W

theorem wp_gath (r : Fin 3) {es₀ es : List (Fin 3 × Ch)} (h₀ : es₀ = (r, X 3 r) :: es) (hes : ∀ e ∈ es, lev (X 3 r) < lev e.2)
    {kk : PE F PUnit} {Q : PUnit → sProp 𝕄} (W : Waits sig Unit) (fd : FVec F S256x1024 .bf16) :
    iprop(records m K ∗ levAts L lv ∗ kit 2 3 r c ∗ pPts c (Rg (r.val + 1) c) (red m) ∗ pPts (pr r c) (Rg (r.val + 1) c) fd
        ∗ owes (c : Thread nD τ) (tal c es₀) W)
      ⊢ iprop(((pPts c (Rg r.val c) (red m) ∗ (semVal (cell c (X 2 r)) 0 ∗ semVal (cell c (X 3 r)) 0) ∗ ∃ W, owes (c : Thread nD τ) (tal c es) W)
            -∗ wp frame (wpE (defs₀ (F := F)) 𝒱₀ (c : Thread nD τ) none) Set.univ kk Q)
          -∗ wp frame (wpE (defs₀ (F := F)) 𝒱₀ (c : Thread nD τ) none) Set.univ (gath r c kk) Q) := by
  subst h₀
  match r, hes with
  | 0, hes => exact wp_gather m K c 0 es hes (dev9_eq c) (off13_eq c) W fd
  | 1, hes => exact wp_gather m K c 1 es hes (dev8_eq c) (off12_eq c) W fd
  | 2, hes => exact wp_gather m K c 2 es hes (dev7_eq c) (off11_eq c) W fd

/-! ## The barrier -/

theorem wp_bar1 (r : Fin 3) {es₀ es : List (Fin 3 × Ch)} (h₀ : es₀ = (r, B) :: es) {d' : Dev nD} (hd : d' = pr r c)
    {kk : PUnit → PE F PUnit} {Q : PUnit → sProp 𝕄} (W : Waits sig Unit) :
    iprop(records m K ∗ dutyTok ER (cell (pr r c) B) 0 r ∗ (∃ f, lPts c r f) ∗ owes (c : Thread nD τ) (tal c es₀) W)
      ⊢ iprop((owes (c : Thread nD τ) (tal c es) W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (d', .tc) bar (1#32).toInt) kk) Q) := by
  subst h₀ hd
  iintro ⟨#HR, Ht, ⟨%f, Hl⟩, HO⟩ Hk
  iapply (Rounds.wp_signal 𝒱₀ ER (Rd m) (c : Thread nD τ) none (dst := ((pr r c : Dev nD) : Thread nD τ)) (κ := K (pr r c, B))
      (d := r) (by rw [show (((pr r c : Dev nD) : Thread nD τ), SemLoc.reg bar) = cell (pr r c) B from rfl, duties_cell]; exact Finset.mem_univ _)
      ((amount_cell m (pr r c) B r).trans (by decide)) () (tal c es) rfl) $$ [HO Ht Hl]
  · isplitr; · iapply (rec_inv m K (pr r c) B); iexact HR
    isplitl [HO]; · iexact HO
    isplitl [Ht]; · iexact Ht
    isplitl [Hl]
    · iapply (Entails.of_eq (show iprop(∃ f, lPts c r f) = (Rd m).payload (((pr r c : Dev nD) : Thread nD τ), SemLoc.reg bar) 0 r from by
        rw [show (((pr r c : Dev nD) : Thread nD τ), SemLoc.reg bar) = cell (pr r c) B from rfl, payload_cell]
        show _ = barPay (pr r c) r
        unfold barPay
        rw [pr_pr]))
      iexists f; iexact Hl
    iapply (rec_reached m K (pr r c) B); iexact HR
  iexact Hk

theorem wp_barrier {kk : PE F PUnit} {Q : PUnit → sProp 𝕄} (W : Waits sig Unit) :
    iprop(records m K ∗ levAts L lv ∗ barKit c ∗ ((∃ f, lPts c 0 f) ∗ (∃ f, lPts c 1 f) ∗ ∃ f, lPts c 2 f)
        ∗ owes (c : Thread nD τ) (tal c ent) W)
      ⊢ iprop((((barPay c 0 ∗ barPay c 1 ∗ barPay c 2) ∗ semVal (cell c B) 0 ∗ ∃ W, owes (c : Thread nD τ) (tal c (ent.drop 3)) W)
            -∗ wp frame (wpE (defs₀ (F := F)) 𝒱₀ (c : Thread nD τ) none) Set.univ kk Q)
          -∗ wp frame (wpE (defs₀ (F := F)) 𝒱₀ (c : Thread nD τ) none) Set.univ (barrierP c kk) Q) := by
  unfold barrierP barKit posn
  iintro ⟨#HR, #Hlev, ⟨Hat, Hc, Ht0, Ht1, Ht2⟩, ⟨Hl0, Hl1, Hl2⟩, HO⟩ Hk
  iapply (wp_bar1 m K c 0 (es₀ := ent) (es := ent.drop 1) rfl (dev1_eq c) W) $$ [Ht0 Hl0 HO]
  · isplitr; · iexact HR
    isplitl [Ht0]; · iexact Ht0
    isplitl [Hl0]; · iexact Hl0
    iexact HO
  iintro HO
  iapply (wp_bar1 m K c 1 (es₀ := ent.drop 1) (es := ent.drop 2) rfl (dev2_eq c) W) $$ [Ht1 Hl1 HO]
  · isplitr; · iexact HR
    isplitl [Ht1]; · iexact Ht1
    isplitl [Hl1]; · iexact Hl1
    iexact HO
  iintro HO
  iapply (wp_bar1 m K c 2 (es₀ := ent.drop 2) (es := ent.drop 3) rfl (dev3_eq c) W) $$ [Ht2 Hl2 HO]
  · isplitr; · iexact HR
    isplitl [Ht2]; · iexact Ht2
    isplitl [Hl2]; · iexact Hl2
    iexact HO
  iintro HO
  iapply (Rounds.wp_wait_rest_token 𝒱₀ ER (Rd m) (c : Thread nD τ) none (κ := K (c, B))
      (wpE_semWait_eq 𝒱₀ (c : Thread nD τ) none Set.univ) (Set.mem_univ _) () (O := tal c (ent.drop 3)) (W := W) (R := 0) (m := 0) (T := ∅)
      (by rw [show ((c : Thread nD τ), SemLoc.reg bar) = cell c B from rfl, expect_bar]; decide)) $$ [Hc HO Hat]
  · isplitr; · iapply (rec_inv m K c B); iexact HR
    isplitl [Hc]; · iexact Hc
    isplitl [HO]; · iexact HO
    isplitr
    · iapply (mayWait c (.reg bar) (ent.drop 3) (fun e he => by
        rw [show SemLoc.reg bar = csem B from rfl, slv_csem]; revert e; decide))
      iexact Hlev
    iexact Hat
  iintro ⟨HO, Hat, -, Hp⟩
  ihave Hp := (Entails.of_eq (show bigSep ((Rd m).duties ((c : Thread nD τ), SemLoc.reg bar) 0 \ ∅) (fun d => (Rd m).payload ((c : Thread nD τ), SemLoc.reg bar) 0 d)
    = iprop(barPay c 0 ∗ barPay c 1 ∗ barPay c 2) from rest_bar m c)) $$ Hp
  imod (Rounds.cell_close ER (Rd m) (Set.mem_univ (K (c, B))) (fun h => h) (R := 0 + 1) (duties_later m (cell c B))) $$ [Hat] with Hz
  · isplitr; · iapply (rec_inv m K c B); iexact HR
    iexact Hat
  iapply Hk
  isplitl [Hp]; · iexact Hp
  isplitl [Hz]; · iexact Hz
  iexists _; iexact HO

/-! ## The buffers whole -/

/-- A buffer of device `c`, whole, at contents `f`. -/
abbrev full (c : Dev nD) (b : Ref sig .tc) (f : Buf (Elt F) ((c : Thread nD τ).loc b)) : sProp 𝕄 := ((c : Thread nD τ).loc b) ↦{fullShare} f

theorem lPts_split (f : Buf (Elt F) ((c : Thread nD τ).loc cc0_scratch4)) :
    (full c cc0_scratch4 f : sProp 𝕄) ⊢ iprop((∃ f, lPts c 0 f) ∗ (∃ f, lPts c 1 f) ∗ ∃ f, lPts c 2 f) := by
  refine (Entails.of_eq ((Ring.pointsTo_sub_blocks (B := Fin 3) (ℓ := (c : Thread nD τ).loc cc0_scratch4) Sl (fun b b' h => Sl_disjoint b b' h) Finset.univ Sl_union f).trans
    (bigSep_fin3 fun r => lPts c r f))).trans ?_
  iintro ⟨H0, H1, H2⟩
  isplitl [H0]; · iexists f; iexact H0
  isplitl [H1]; · iexists f; iexact H1
  iexists f; iexact H2

theorem lPts_join (f0 f1 f2 : FVec F S224x1024 .bf16) :
    iprop(lPts c 0 f0 ∗ lPts c 1 f1 ∗ lPts c 2 f2) ⊢ (iprop(∃ f, full c cc0_scratch4 f) : sProp 𝕄) := by
  refine (?_ : _ ⊢ bigSep Finset.univ (fun r : Fin 3 => iprop(∃ f, lPts c r f))).trans
    (Ring.pointsTo_sub_blocks_join_exists (B := Fin 3) (ℓ := (c : Thread nD τ).loc cc0_scratch4) Sl (fun b b' h => Sl_disjoint b b' h) Finset.univ Sl_union f0)
  rw [bigSep_fin3]
  iintro ⟨H0, H1, H2⟩
  isplitl [H0]; · iexists f0; iexact H0
  isplitl [H1]; · iexists f1; iexact H1
  iexists f2; iexact H2

theorem pPts_full (f : FVec F S256x1024 .bf16) : (full c cc0_scratch3 f : sProp 𝕄) = pPts c (Rg 0 c) f := by
  unfold pPts; rw [Rg_zero]

theorem own_red : (pPts c (Rg 3 c) (acc m 3 c) : sProp 𝕄) = pPts c (Rg 3 c) (red m) := by
  unfold pPts
  exact pointsTo_congr fun i hi => (red_own m c hi).symm

/-! ## The tail -/

theorem hz2 : (![0, 0] : Fin 2 → ℕ) = fun _ => 0 := funext fun a => by fin_cases a <;> rfl
theorem hz3 : (![0, 0, 0] : Fin 3 → ℕ) = fun _ => 0 := funext fun a => by fin_cases a <;> rfl

theorem readC (f : FVec F S256x1024 .f32) :
    cM.view.readAt (Elt F) (Rect.unit (s := S256x1024) ![0, 0] S256x1024.size inb_S256x1024_S256x1024_0_0).toLoadRect f = f :=
  Memref.readAt_unit_zero (Elt F) cc0_scratch2 hz2 _ f
theorem readW (f : FVec F S1024x1024 .f32) :
    woM.view.readAt (Elt F) (Rect.unit (s := S1024x1024) ![0, 0] S1024x1024.size inb_S1024x1024_S1024x1024_0_0).toLoadRect f = f :=
  Memref.readAt_unit_zero (Elt F) cc0_stg2_0 hz2 _ f
theorem readP (f : FVec F S256x1024 .bf16) :
    pM.view.readAt (Elt F) (Rect.unit (s := S256x1024) ![0, 0] S256x1024.size inb_S256x1024_S256x1024_0_0).toLoadRect f = f :=
  Memref.readAt_unit_zero (Elt F) cc0_scratch3 hz2 _ f
theorem writeP (f w : FVec F S256x1024 .bf16) :
    (pM.access (Rect.unit (s := S256x1024) ![0, 0] S256x1024.size inb_S256x1024_S256x1024_0_0)).write (Elt F) f w Finset.univ = w :=
  Memref.write_access_unit_zero_univ (Elt F) cc0_scratch3 hz2 _ f w
theorem writeO (f w : FVec F S1x256x1024 .f32) :
    (oM.access (Rect.unit (s := S1x256x1024) ![0, 0, 0] S1x256x1024.size inb_S1x256x1024_S1x256x1024_0_0_0)).write (Elt F) f w Finset.univ = w :=
  Memref.write_access_unit_zero_univ (Elt F) cc0_stg3_0 hz3 _ f w

theorem wp_project {kk : PE F PUnit} {Q : PUnit → sProp 𝕄} (f3) :
    iprop(full c cc0_scratch2 (cx m c) ∗ full c cc0_stg2_0 (wov m c) ∗ full c cc0_scratch3 f3)
      ⊢ iprop(((full c cc0_scratch2 (cx m c) ∗ full c cc0_stg2_0 (wov m c) ∗ pPts c (Rg 0 c) (acc m 0 c))
            -∗ wp frame (wpE (defs₀ (F := F)) 𝒱₀ (c : Thread nD τ) none) Set.univ kk Q)
          -∗ wp frame (wpE (defs₀ (F := F)) 𝒱₀ (c : Thread nD τ) none) Set.univ (project kk) Q) := by
  unfold project
  iintro ⟨Hc, Hw, Hp⟩ Hk
  iapply (wp_load 𝒱₀ (c : Thread nD τ) none Set.univ (m := cM) (Finset.subset_univ _)) $$ Hc; iintro Hc
  iapply (wp_load 𝒱₀ (c : Thread nD τ) none Set.univ (m := woM) (Finset.subset_univ _)) $$ Hw; iintro Hw
  iapply (wp_load 𝒱₀ (c : Thread nD τ) none Set.univ (m := pM) (Finset.subset_univ _)) $$ Hp; iintro Hp
  iapply (wp_store 𝒱₀ (c : Thread nD τ) none Set.univ (m := pM) (r := Rect.unit (s := S256x1024) ![0, 0] S256x1024.size inb_S256x1024_S256x1024_0_0) (Mk := Finset.univ) (Finset.subset_univ _)) $$ Hp; iintro Hp
  rw [readC, readW, writeP]
  iapply Hk
  isplitl [Hc]; · iexact Hc
  isplitl [Hw]; · iexact Hw
  iapply (Entails.of_eq (pPts_full c (part m c))); iexact Hp

theorem wp_fin {Q : PUnit → sProp 𝕄} (fo) :
    iprop(full c cc0_scratch3 (red m) ∗ full c cc0_stg3_0 fo)
      ⊢ iprop(((full c cc0_scratch3 (red m) ∗ full c cc0_stg3_0 (outv m)) -∗ Q ⟨⟩)
          -∗ wp frame (wpE (defs₀ (F := F)) 𝒱₀ (c : Thread nD τ) none) Set.univ fin Q) := by
  unfold fin
  iintro ⟨Hp, Ho⟩ Hk
  iapply (wp_load 𝒱₀ (c : Thread nD τ) none Set.univ (m := pM) (Finset.subset_univ _)) $$ Hp; iintro Hp
  iapply (wp_load 𝒱₀ (c : Thread nD τ) none Set.univ (m := oM) (Finset.subset_univ _)) $$ Ho; iintro Ho
  iapply (wp_store 𝒱₀ (c : Thread nD τ) none Set.univ (m := oM) (r := Rect.unit (s := S1x256x1024) ![0, 0, 0] S1x256x1024.size inb_S1x256x1024_S1x256x1024_0_0_0) (Mk := Finset.univ) (Finset.subset_univ _)) $$ Ho; iintro Ho
  rw [readP, writeO, wp_ret]
  imodintro
  iapply Hk
  isplitl [Hp]; · iexact Hp
  iexact Ho

/-- The protocol's resources of one device. -/
def kits (c : Dev nD) : sProp 𝕄 :=
  iprop(barKit c ∗ (kit 0 1 0 c ∗ kit 0 1 1 c ∗ kit 0 1 2 c) ∗ kit 2 3 0 c ∗ kit 2 3 1 c ∗ kit 2 3 2 c)

/-- A device's channels at zero. -/
def zeros (c : Dev nD) : sProp 𝕄 :=
  iprop(semVal (cell c B) 0
    ∗ ((semVal (cell c (X 0 0)) 0 ∗ semVal (cell c (X 1 0)) 0) ∗ (semVal (cell c (X 0 1)) 0 ∗ semVal (cell c (X 1 1)) 0) ∗ (semVal (cell c (X 0 2)) 0 ∗ semVal (cell c (X 1 2)) 0))
    ∗ (semVal (cell c (X 2 0)) 0 ∗ semVal (cell c (X 3 0)) 0) ∗ (semVal (cell c (X 2 1)) 0 ∗ semVal (cell c (X 3 1)) 0) ∗ (semVal (cell c (X 2 2)) 0 ∗ semVal (cell c (X 3 2)) 0))

set_option maxHeartbeats 1000000 in
theorem wp_tail {Q : PUnit → sProp 𝕄} (W : Waits sig Unit) (f3 f4 fo) :
    iprop(records m K ∗ levAts L lv ∗ kits c ∗ owes (c : Thread nD τ) (O₀ c) W
        ∗ full c cc0_scratch2 (cx m c) ∗ full c cc0_stg2_0 (wov m c) ∗ full c cc0_scratch3 f3 ∗ full c cc0_scratch4 f4 ∗ full c cc0_stg3_0 fo)
      ⊢ iprop(((zeros c ∗ (∃ W, owes (c : Thread nD τ) 0 W)
              ∗ full c cc0_scratch2 (cx m c) ∗ full c cc0_stg2_0 (wov m c) ∗ (∃ f, full c cc0_scratch3 f) ∗ (∃ f, full c cc0_scratch4 f) ∗ full c cc0_stg3_0 (outv m)) -∗ Q ⟨⟩)
          -∗ wp frame (wpE (defs₀ (F := F)) 𝒱₀ (c : Thread nD τ) none) Set.univ (tail c) Q) := by
  rw [tail_eq]
  unfold kits
  iintro ⟨#HR, #Hlev, ⟨HB, ⟨Hs0, Hs1, Hs2⟩, Hg0, Hg1, Hg2⟩, HO, Hc, Hw, Hp, Hr, Hout⟩ Hk
  iapply (wp_project m c f3) $$ [Hc Hw Hp]
  · isplitl [Hc]; · iexact Hc
    isplitl [Hw] <;> iassumption
  iintro ⟨Hc, Hw, Hp⟩
  ihave Hl := (lPts_split c f4) $$ Hr
  iapply (wp_barrier m K c W) $$ [HB Hl HO]
  · isplitr; · iexact HR
    isplitr; · iexact Hlev
    isplitl [HB]; · iexact HB
    isplitl [Hl]; · iexact Hl
    iexact HO
  iintro ⟨⟨Hb0, Hb1, Hb2⟩, HzB, ⟨%W0, HO⟩⟩
  iapply (wp_scat m K c 0 (es₀ := ent.drop 3) (es := ent.drop 4) rfl (by decide) W0) $$ [Hs0 Hp Hb0 HO]
  · isplitr; · iexact HR
    isplitr; · iexact Hlev
    isplitl [Hs0]; · iexact Hs0
    isplitl [Hp]; · iexact Hp
    isplitl [Hb0]; · iexact Hb0
    iexact HO
  iintro ⟨Hp, Hl0, Hq0, Hz0, ⟨%W1, HO⟩⟩
  iapply (wp_scat m K c 1 (es₀ := ent.drop 4) (es := ent.drop 5) rfl (by decide) W1) $$ [Hs1 Hp Hb1 HO]
  · isplitr; · iexact HR
    isplitr; · iexact Hlev
    isplitl [Hs1]; · iexact Hs1
    isplitl [Hp]; · iexact Hp
    isplitl [Hb1]; · iexact Hb1
    iexact HO
  iintro ⟨Hp, Hl1, Hq1, Hz1, ⟨%W2, HO⟩⟩
  iapply (wp_scat m K c 2 (es₀ := ent.drop 5) (es := ent.drop 6) rfl (by decide) W2) $$ [Hs2 Hp Hb2 HO]
  · isplitr; · iexact HR
    isplitr; · iexact Hlev
    isplitl [Hs2]; · iexact Hs2
    isplitl [Hp]; · iexact Hp
    isplitl [Hb2]; · iexact Hb2
    iexact HO
  iintro ⟨Hp, Hl2, Hq2, Hz2, ⟨%W3, HO⟩⟩
  ihave Hp := (Entails.of_eq (show pPts c (Rg ((2 : Fin 3).val + 1) c) (acc m ((2 : Fin 3).val + 1) c) = pPts c (Rg ((2 : Fin 3).val + 1) c) (red m) from own_red m c)) $$ Hp
  iapply (wp_gath m K c 2 (es₀ := ent.drop 6) (es := ent.drop 7) rfl (by decide) W3 (acc m 2 (pr 2 c))) $$ [Hg2 Hp Hq2 HO]
  · isplitr; · iexact HR
    isplitr; · iexact Hlev
    isplitl [Hg2]; · iexact Hg2
    isplitl [Hp]; · iexact Hp
    isplitl [Hq2]; · iexact Hq2
    iexact HO
  iintro ⟨Hp, Hy2, ⟨%W4, HO⟩⟩
  iapply (wp_gath m K c 1 (es₀ := ent.drop 7) (es := ent.drop 8) rfl (by decide) W4 (acc m 1 (pr 1 c))) $$ [Hg1 Hp Hq1 HO]
  · isplitr; · iexact HR
    isplitr; · iexact Hlev
    isplitl [Hg1]; · iexact Hg1
    isplitl [Hp]; · iexact Hp
    isplitl [Hq1]; · iexact Hq1
    iexact HO
  iintro ⟨Hp, Hy1, ⟨%W5, HO⟩⟩
  iapply (wp_gath m K c 0 (es₀ := ent.drop 8) (es := []) rfl (by decide) W5 (acc m 0 (pr 0 c))) $$ [Hg0 Hp Hq0 HO]
  · isplitr; · iexact HR
    isplitr; · iexact Hlev
    isplitl [Hg0]; · iexact Hg0
    isplitl [Hp]; · iexact Hp
    isplitl [Hq0]; · iexact Hq0
    iexact HO
  iintro ⟨Hp, Hy0, ⟨%W6, HO⟩⟩
  ihave Hp := (Entails.of_eq (show pPts c (Rg (0 : Fin 3).val c) (red m) = full c cc0_scratch3 (red m) from (pPts_full c (red m)).symm)) $$ Hp
  ihave Hr := (lPts_join c _ _ _) $$ [Hl0 Hl1 Hl2]
  · isplitl [Hl0]; · iexact Hl0
    isplitl [Hl1] <;> iassumption
  iapply (wp_fin m c fo) $$ [Hp Hout]
  · isplitl [Hp] <;> iassumption
  iintro ⟨Hp, Hout⟩
  iapply Hk
  unfold zeros
  isplitl [HzB Hz0 Hz1 Hz2 Hy0 Hy1 Hy2]
  · isplitl [HzB]; · iexact HzB
    isplitl [Hz0 Hz1 Hz2]
    · isplitl [Hz0]; · iexact Hz0
      isplitl [Hz1] <;> iassumption
    isplitl [Hy0]; · iexact Hy0
    isplitl [Hy1] <;> iassumption
  isplitl [HO]; · iexists W6; iexact HO
  isplitl [Hc]; · iexact Hc
  isplitl [Hw]; · iexact Hw
  isplitl [Hp]; · iexists _; iexact Hp
  isplitl [Hr]; · iexact Hr
  iexact Hout

end

end Cert.Attn
-- ==== Proof.Front.lean ====
/-
# The local copies and the attention tiles

The 64 copies of keys and values are started one pair after the other and waited for in the same order, each just
before its tile is computed and stored.
-/
module

public import proofs.«01_k».proof.Proof.Tail

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ UU ℕ

variable (m : (ℓ : Loc nD τ sig) → Buf (Elt F) ℓ)

/-! ## One pair's copy -/

section Copy
variable (A : Memref sig .tc .hbm S16x4x64x64x128 .f32) (Bm : Memref sig .tc .vmem S4x8x16x64x128 .f32) (S : DmaSems sig S4x8) (c : Dev nD)
variable (fA : Buf (Elt F) (A.view.loc (c : Thread nD τ)))

/-- The pair's window of the argument. -/
def srcP (p : QH) : sProp 𝕄 := (srcV A c p).view.loc (c : Thread nD τ) ↦[(srcV A c p).view.set]{fullShare} fA
/-- The pair's slot of the copy buffer. -/
def slotP (p : QH) (f : Buf (Elt F) ((slotV Bm p).view.loc (c : Thread nD τ))) : sProp 𝕄 :=
  (slotV Bm p).view.loc (c : Thread nD τ) ↦[(slotV Bm p).view.set]{fullShare} f
def semP (p : QH) : sProp 𝕄 := semVal ((c : Thread nD τ), .dma (slotS S p)) 0

/-- The pair's resources when no copy is under way. -/
def idle (p : QH) : sProp 𝕄 := iprop(srcP A c fA p ∗ (∃ f, slotP Bm c p f) ∗ semP S c p)

/-- What the pair's copy delivers. -/
def dlv (p : QH) (f : Buf (Elt F) ((slotV Bm p).view.loc (c : Thread nD τ))) : sProp 𝕄 :=
  iprop(slotP Bm c p ((slotV Bm p).view.write (Elt F) f ((srcV A c p).view.read (Elt F) fA) Finset.univ) ∗ srcP A c fA p)

/-- The pair's copy under way. -/
def flying (p : QH) : sProp 𝕄 :=
  iprop(∃ f, Flight EC (c : Thread nD τ) (.dma (slotS S p)) () (slotV Bm p).view.dmaCredit (dlv A Bm c fA p f))

theorem slot_credit_pos (p : QH) : 0 < (slotV Bm p).view.dmaCredit := View.dmaCredit_pos _ (by decide)

theorem wp_start {p : QH} {h1 h2 h3} {kk : PUnit → PE F PUnit} {Q : PUnit → sProp 𝕄} :
    idle A Bm S c fA p
      ⊢ iprop((flying A Bm S c fA p -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (srcV A c p) (.here (slotV Bm p)) (.dma (slotS S p)) h1 h2 h3) kk) Q) := by
  unfold idle flying dlv srcP slotP semP
  iintro ⟨Hs, ⟨%f, Hd⟩, Hv⟩ Hk
  iapply (wp_dmaLocal EC 𝒱₀ (c : Thread nD τ) none (src := srcV A c p) (dst := slotV Bm p) (sm := .dma (slotS S p)) (via := .same)
    (q := fullShare) (fs := fA) (Sd := (slotV Bm p).view.set) (fd := f) () (slotV Bm p).view.dmaCredit rfl (slot_credit_pos Bm p) (Finset.Subset.refl _)) $$ [Hs Hd Hv]
  · isplitl [Hs]; · iexact Hs
    isplitl [Hd]; · iexact Hd
    iexact Hv
  iintro Hf
  iapply Hk
  iexists f
  iexact Hf

theorem wp_land {p : QH} {h1 h2} {kk : PUnit → PE F PUnit} {Q : PUnit → sProp 𝕄} (hS : slv (.dma (slotS S p)) = 0) (W : Waits sig Unit) :
    iprop(flying A Bm S c fA p ∗ levAts L lv ∗ owes (c : Thread nD τ) (O₀ c) W)
      ⊢ iprop((((∃ f, slotP Bm c p ((slotV Bm p).view.write (Elt F) f ((srcV A c p).view.read (Elt F) fA) Finset.univ)) ∗ srcP A c fA p ∗ semP S c p
              ∗ owes (c : Thread nD τ) (O₀ c) (insert (SemLoc.dma (slotS S p), ()) W))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 (slotS S p) (srcV A c p) (slotV Bm p) h1 h2) kk) Q) := by
  unfold flying
  iintro ⟨⟨%f, Hf⟩, Hlev, HO⟩ Hk
  iapply (wp_waitLocalO EC 𝒱₀ (c : Thread nD τ) none (sem := slotS S p) (srcw := srcV A c p) (dstw := slotV Bm p) () rfl (O := O₀ c) (W := W)) $$ [Hf Hlev HO]
  · isplitl [Hf]; · iexact Hf
    isplitl [HO]; · iexact HO
    iapply (mayWait c (.dma (slotS S p)) ent (fun e he => by rw [hS]; exact ent_pos e he))
    iexact Hlev
  unfold dlv
  iintro ⟨⟨Hd, Hs⟩, Hv, HO⟩
  iapply Hk
  isplitl [Hd]; · iexists f; iexact Hd
  isplitl [Hs]; · iexact Hs
  isplitl [Hv]; · unfold semP; iexact Hv
  iexact HO

/-- The slot, loaded after the copy, is what the copy read. -/
theorem slot_read (p : QH) (f : Buf (Elt F) ((slotV Bm p).view.loc (c : Thread nD τ))) (w : FVec F S16x64x128 .f32) :
    shapeCast S16x64x128 (Bm.view.readAt (Elt F) (slotR p).toLoadRect ((slotV Bm p).view.write (Elt F) f w Finset.univ)) shapeCasts_S1x1x16x64x128_S16x64x128 = w :=
  View.read_write_univ (v := (slotV Bm p).view) f w

theorem slot_sub (p : QH) : Bm.view.setOn (slotR p).toLoadRect.set ⊆ (slotV Bm p).view.set := by
  rw [show (slotV Bm p).view.set = (Bm.view.slice (slotR p)).set from View.set_reshape _ _, View.set_slice]
  exact Finset.Subset.refl _

end Copy

/-! ## The loops -/

/-- The two copies of a pair, before and while under way. -/
def idle2 (c : Dev nD) (p : QH) : sProp 𝕄 :=
  iprop(idle kM kbM cc0_scratch5 c (m ((c : Thread nD τ).loc main_arg2)) p ∗ idle vM vbM cc0_scratch6 c (m ((c : Thread nD τ).loc main_arg3)) p)
def flying2 (c : Dev nD) (p : QH) : sProp 𝕄 :=
  iprop(flying kM kbM cc0_scratch5 c (m ((c : Thread nD τ).loc main_arg2)) p ∗ flying vM vbM cc0_scratch6 c (m ((c : Thread nD τ).loc main_arg3)) p)

section Loops
variable (c : Dev nD)

theorem list_cons {I : Type} (i : I) (l : List I) (Φ : I → sProp 𝕄) : bigSepL (i :: l) Φ = iprop(Φ i ∗ bigSepL l Φ) := bigSepL_cons i l Φ

theorem wp_starts {kk : PE F PUnit} {Q : PUnit → sProp 𝕄} : ∀ ps : List QH,
    bigSepL ps (idle2 m c)
      ⊢ iprop((bigSepL ps (flying2 m c) -∗ wp frame (wpE (defs₀ (F := F)) 𝒱₀ (c : Thread nD τ) none) Set.univ kk Q)
          -∗ wp frame (wpE (defs₀ (F := F)) 𝒱₀ (c : Thread nD τ) none) Set.univ (starts c ps kk) Q)
  | [] => by
    unfold starts
    iintro H Hk
    iapply Hk
    iexact H
  | p :: ps => by
    unfold starts
    rw [list_cons, list_cons]
    rw [show idle2 m c p = iprop(idle kM kbM cc0_scratch5 c (m ((c : Thread nD τ).loc main_arg2)) p ∗ idle vM vbM cc0_scratch6 c (m ((c : Thread nD τ).loc main_arg3)) p) from rfl,
      show flying2 m c p = iprop(flying kM kbM cc0_scratch5 c (m ((c : Thread nD τ).loc main_arg2)) p ∗ flying vM vbM cc0_scratch6 c (m ((c : Thread nD τ).loc main_arg3)) p) from rfl]
    iintro ⟨⟨HK, HV⟩, H⟩ Hk
    iapply (wp_start kM kbM cc0_scratch5 c (m ((c : Thread nD τ).loc main_arg2))) $$ HK
    iintro HK
    iapply (wp_start vM vbM cc0_scratch6 c (m ((c : Thread nD τ).loc main_arg3))) $$ HV
    iintro HV
    iapply (wp_starts ps) $$ H
    iintro H
    iapply Hk
    isplitl [HK HV]
    · isplitl [HK] <;> iassumption
    iexact H

/-- The context buffer after the tiles of some pairs are stored. -/
def ctxAfter (ps : List QH) (f : FVec F S256x1024 .f32) : FVec F S256x1024 .f32 :=
  ps.foldl (fun f p => (cM.access (ctxR p)).write (Elt F) f (tv m c p) Finset.univ) f

theorem wp_tiles {kk : PE F PUnit} {Q : PUnit → sProp 𝕄} : ∀ (ps : List QH) (f : FVec F S256x1024 .f32) (W : Waits sig Unit),
    iprop(bigSepL ps (flying2 m c) ∗ levAts L lv ∗ full c cc0_scratch2 f ∗ owes (c : Thread nD τ) (O₀ c) W)
      ⊢ iprop(((bigSepL ps (idle2 m c) ∗ full c cc0_scratch2 (ctxAfter m c ps f) ∗ ∃ W, owes (c : Thread nD τ) (O₀ c) W)
            -∗ wp frame (wpE (defs₀ (F := F)) 𝒱₀ (c : Thread nD τ) none) Set.univ kk Q)
          -∗ wp frame (wpE (defs₀ (F := F)) 𝒱₀ (c : Thread nD τ) none) Set.univ (tiles c (qv m c) ps kk) Q)
  | [], f, W => by
    unfold tiles
    iintro ⟨H, -, Hc, HO⟩ Hk
    iapply Hk
    isplitl [H]; · iexact H
    isplitl [Hc]; · iexact Hc
    iexists W; iexact HO
  | p :: ps, f, W => by
    unfold tiles
    rw [list_cons, list_cons]
    rw [show idle2 m c p = iprop(idle kM kbM cc0_scratch5 c (m ((c : Thread nD τ).loc main_arg2)) p ∗ idle vM vbM cc0_scratch6 c (m ((c : Thread nD τ).loc main_arg3)) p) from rfl,
      show flying2 m c p = iprop(flying kM kbM cc0_scratch5 c (m ((c : Thread nD τ).loc main_arg2)) p ∗ flying vM vbM cc0_scratch6 c (m ((c : Thread nD τ).loc main_arg3)) p) from rfl]
    iintro ⟨⟨⟨HK, HV⟩, H⟩, #Hlev, Hc, HO⟩ Hk
    iapply (wp_land kM kbM cc0_scratch5 c (m ((c : Thread nD τ).loc main_arg2)) (slv_slotK p) W) $$ [HK HO]
    · isplitl [HK]; · iexact HK
      isplitr; · iexact Hlev
      iexact HO
    iintro ⟨⟨%fk, HKd⟩, HKs, HKz, HO⟩
    iapply (wp_land vM vbM cc0_scratch6 c (m ((c : Thread nD τ).loc main_arg3)) (slv_slotV p) _) $$ [HV HO]
    · isplitl [HV]; · iexact HV
      isplitr; · iexact Hlev
      iexact HO
    iintro ⟨⟨%fv, HVd⟩, HVs, HVz, HO⟩
    unfold slotP
    iapply (wp_load 𝒱₀ (c : Thread nD τ) none Set.univ (m := kbM) (r := (slotR p).toLoadRect) (slot_sub kbM p)) $$ HKd; iintro HKd
    iapply (wp_load 𝒱₀ (c : Thread nD τ) none Set.univ (m := vbM) (r := (slotR p).toLoadRect) (slot_sub vbM p)) $$ HVd; iintro HVd
    iapply (wp_load 𝒱₀ (c : Thread nD τ) none Set.univ (m := cM) (Finset.subset_univ _)) $$ Hc; iintro Hc
    iapply (wp_store 𝒱₀ (c : Thread nD τ) none Set.univ (m := cM) (r := ctxR p) (Mk := Finset.univ) (Finset.subset_univ _)) $$ Hc; iintro Hc
    rw [slot_read kbM c p, slot_read vbM c p]
    iapply (wp_tiles ps ((cM.access (ctxR p)).write (Elt F) f (tv m c p) Finset.univ) _) $$ [H Hc HO]
    · isplitl [H]; · iexact H
      isplitr; · iexact Hlev
      isplitl [Hc]; · iexact Hc
      iexact HO
    iintro ⟨H, Hc, HO⟩
    iapply Hk
    isplitl [HKd HKs HKz HVd HVs HVz H]
    · isplitl [HKd HKs HKz HVd HVs HVz]
      · unfold idle slotP
        isplitl [HKd HKs HKz]
        · isplitl [HKs]; · iexact HKs
          isplitl [HKd]; · iexists _; iexact HKd
          iexact HKz
        · isplitl [HVs]; · iexact HVs
          isplitl [HVd]; · iexists _; iexact HVd
          iexact HVz
      iexact H
    isplitl [Hc]; · iexact Hc
    iexact HO

end Loops

/-! ## All tiles stored -/

theorem ctx_emb (p : QH) (x : S64x128.Idx) :
    pairOf ((cM.access (ctxR p)).emb x) = p ∧ within ((cM.access (ctxR p)).emb x) = x := by
  have h0 : ((cM.access (ctxR p)).emb x 0 : ℕ) = 64 * p.1.val + 1 * (x 0).val := rfl
  have h1 : ((cM.access (ctxR p)).emb x 1 : ℕ) = 128 * p.2.val + 1 * (x 1).val := rfl
  have l0 : (x 0).val < 64 := (x 0).isLt
  have l1 : (x 1).val < 128 := (x 1).isLt
  constructor
  · refine Prod.ext (Fin.ext ?_) (Fin.ext ?_)
    · show ((cM.access (ctxR p)).emb x 0 : ℕ) / 64 = p.1.val
      omega
    · show ((cM.access (ctxR p)).emb x 1 : ℕ) / 128 = p.2.val
      omega
  · funext a
    apply Fin.ext
    fin_cases a
    · show ((cM.access (ctxR p)).emb x 0 : ℕ) % 64 = (x 0).val
      omega
    · show ((cM.access (ctxR p)).emb x 1 : ℕ) % 128 = (x 1).val
      omega

theorem emb_within (i : (SR 256).Idx) : (cM.access (ctxR (pairOf i))).emb (within i) = i := by
  funext a
  apply Fin.ext
  fin_cases a
  · show 64 * ((i 0).val / 64) + 1 * ((i 0).val % 64) = (i 0).val
    omega
  · show 128 * ((i 1).val / 128) + 1 * ((i 1).val % 128) = (i 1).val
    omega

theorem tile_emb (p : QH) (f : FVec F S256x1024 .f32) (w : (ctxR p).shape.Idx → Elt F .f32) (x : (ctxR p).shape.Idx) :
    (cM.access (ctxR p)).write (Elt F) f w Finset.univ ((cM.access (ctxR p)).emb x) = w x :=
  View.write_emb_of_mem _ _ (Finset.mem_univ x)

theorem tile_off (p : QH) (f : FVec F S256x1024 .f32) (w : (ctxR p).shape.Idx → Elt F .f32) (i : (SR 256).Idx) (h : pairOf i ≠ p) :
    (cM.access (ctxR p)).write (Elt F) f w Finset.univ i = f i :=
  View.write_of_not_mem _ _ _ fun hi => h (by
    obtain ⟨x, -, rfl⟩ := Finset.mem_map.mp hi
    exact (ctx_emb p x).1)

theorem tile_on (f : FVec F S256x1024 .f32) (i : (SR 256).Idx) (w : (ctxR (pairOf i)).shape.Idx → Elt F .f32) :
    (cM.access (ctxR (pairOf i))).write (Elt F) f w Finset.univ i = w (within i) := by
  have h := tile_emb (pairOf i) f w (within i)
  rw [emb_within] at h
  exact h

theorem tile_write (c : Dev nD) (p : QH) (f : FVec F S256x1024 .f32) (i : (SR 256).Idx) :
    (cM.access (ctxR p)).write (Elt F) f (tv m c p) Finset.univ i = if pairOf i = p then cx m c i else f i := by
  by_cases h : pairOf i = p
  · rw [if_pos h]
    subst h
    exact tile_on f i _
  · rw [if_neg h]
    exact tile_off p f _ i h

theorem ctxAfter_apply (c : Dev nD) (i : (SR 256).Idx) : ∀ (ps : List QH) (f : FVec F S256x1024 .f32),
    ctxAfter m c ps f i = if pairOf i ∈ ps then cx m c i else f i
  | [], f => by rw [if_neg (List.not_mem_nil)]; rfl
  | p :: ps, f => by
    show ctxAfter m c ps ((cM.access (ctxR p)).write (Elt F) f (tv m c p) Finset.univ) i = _
    rw [ctxAfter_apply c i ps, tile_write]
    by_cases h : pairOf i ∈ ps
    · rw [if_pos h, if_pos (List.mem_cons_of_mem _ h)]
    · rw [if_neg h]
      by_cases h' : pairOf i = p
      · rw [if_pos h', if_pos (List.mem_cons.mpr (Or.inl h'))]
      · rw [if_neg h', if_neg fun hm => (List.mem_cons.mp hm).elim h' h]

theorem mem_pairs (p : QH) : p ∈ pairs := by revert p; decide

theorem ctx_done (c : Dev nD) (f : FVec F S256x1024 .f32) : ctxAfter m c pairs f = cx m c :=
  funext fun i => by rw [ctxAfter_apply, if_pos (mem_pairs _)]

end Cert.Attn
-- ==== Proof.Body.lean ====
/-
# The body

The key and value arguments and the two copy buffers are split into the pairs' windows and slots, the body runs from
them to the result, and the windows and slots are put together again.
-/
module

public import proofs.«01_k».proof.Proof.Front
public import Idealize.ShloMosaic.Lib.Ring

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Windows and slots as sets of elements -/

/-- The elements of an argument that the pair's copies read on device `c`. -/
def srcSet (c : Dev nD) (p : QH) : Finset S16x4x64x64x128.Idx :=
  (Rect.unit (s := S16x4x64x64x128) (srcOff c p) S16x1x64x1x128.size (srcOff_inb c p)).set

/-- The elements of a copy buffer that are the pair's slot. -/
def slotSet (p : QH) : Finset S4x8x16x64x128.Idx := (slotR p).set

theorem mem_srcSet {c : Dev nD} {p : QH} {i : S16x4x64x64x128.Idx} (h : i ∈ srcSet c p) :
    (i 1 : ℕ) = p.1.val ∧ (i 3 : ℕ) = 8 * c.val + p.2.val := by
  have h' := Rect.mem_set_unit.mp h
  have h1 := h' 1
  have h3 := h' 3
  simp only [srcOff_eq] at h1 h3
  have e1 : p.1.val ≤ (i 1 : ℕ) ∧ (i 1 : ℕ) < p.1.val + 1 := h1
  have e3 : 8 * c.val + p.2.val ≤ (i 3 : ℕ) ∧ (i 3 : ℕ) < 8 * c.val + p.2.val + 1 := h3
  omega

theorem mem_slotSet {p : QH} {i : S4x8x16x64x128.Idx} : i ∈ slotSet p ↔ (i 0 : ℕ) = p.1.val ∧ (i 1 : ℕ) = p.2.val := by
  constructor
  · intro h
    have h' := Rect.mem_set_unit.mp h
    have e0 : p.1.val ≤ (i 0 : ℕ) ∧ (i 0 : ℕ) < p.1.val + 1 := h' 0
    have e1 : p.2.val ≤ (i 1 : ℕ) ∧ (i 1 : ℕ) < p.2.val + 1 := h' 1
    omega
  · rintro ⟨h0, h1⟩
    refine Rect.mem_set_unit.mpr fun a => ?_
    have l2 : (i 2 : ℕ) < 16 := (i 2).isLt
    have l3 : (i 3 : ℕ) < 64 := (i 3).isLt
    have l4 : (i 4 : ℕ) < 128 := (i 4).isLt
    fin_cases a
    · show p.1.val ≤ (i 0 : ℕ) ∧ (i 0 : ℕ) < p.1.val + 1
      omega
    · show p.2.val ≤ (i 1 : ℕ) ∧ (i 1 : ℕ) < p.2.val + 1
      omega
    · show 0 ≤ (i 2 : ℕ) ∧ (i 2 : ℕ) < 0 + 16
      omega
    · show 0 ≤ (i 3 : ℕ) ∧ (i 3 : ℕ) < 0 + 64
      omega
    · show 0 ≤ (i 4 : ℕ) ∧ (i 4 : ℕ) < 0 + 128
      omega

theorem srcSet_disjoint (c : Dev nD) : ∀ p q : QH, p ≠ q → Disjoint (srcSet c p) (srcSet c q) := fun p q hpq =>
  Finset.disjoint_left.mpr fun i hp hq => hpq (by
    obtain ⟨a1, a3⟩ := mem_srcSet hp
    obtain ⟨b1, b3⟩ := mem_srcSet hq
    exact Prod.ext (Fin.ext (by omega)) (Fin.ext (by omega)))

theorem slotSet_disjoint : ∀ p q : QH, p ≠ q → Disjoint (slotSet p) (slotSet q) := fun p q hpq =>
  Finset.disjoint_left.mpr fun i hp hq => hpq (by
    obtain ⟨a0, a1⟩ := mem_slotSet.mp hp
    obtain ⟨b0, b1⟩ := mem_slotSet.mp hq
    exact Prod.ext (Fin.ext (by omega)) (Fin.ext (by omega)))

theorem slotSet_all (i : S4x8x16x64x128.Idx) : ∃ p ∈ (Finset.univ : Finset QH), i ∈ slotSet p :=
  ⟨(⟨i 0, (i 0).isLt⟩, ⟨i 1, (i 1).isLt⟩), Finset.mem_univ _, mem_slotSet.mpr ⟨rfl, rfl⟩⟩

section Split
variable (c : Dev nD)

theorem srcP_key (f : Buf (Elt F) ((c : Thread nD τ).loc main_arg2)) (p : QH) :
    srcP kM c f p = (((c : Thread nD τ).loc main_arg2) ↦[srcSet c p]{fullShare} f : sProp 𝕄) := by
  unfold srcP
  rw [show (srcV kM c p).view.set = srcSet c p from (View.set_reshape _ _).trans (View.set_slice_whole main_arg2 _)]
theorem srcP_val (f : Buf (Elt F) ((c : Thread nD τ).loc main_arg3)) (p : QH) :
    srcP vM c f p = (((c : Thread nD τ).loc main_arg3) ↦[srcSet c p]{fullShare} f : sProp 𝕄) := by
  unfold srcP
  rw [show (srcV vM c p).view.set = srcSet c p from (View.set_reshape _ _).trans (View.set_slice_whole main_arg3 _)]
theorem slotP_key (f : Buf (Elt F) ((c : Thread nD τ).loc cc0_scratch0)) (p : QH) :
    slotP kbM c p f = (((c : Thread nD τ).loc cc0_scratch0) ↦[slotSet p]{fullShare} f : sProp 𝕄) := by
  unfold slotP
  rw [show (slotV kbM p).view.set = slotSet p from (View.set_reshape _ _).trans (View.set_slice_whole cc0_scratch0 _)]
theorem slotP_val (f : Buf (Elt F) ((c : Thread nD τ).loc cc0_scratch1)) (p : QH) :
    slotP vbM c p f = (((c : Thread nD τ).loc cc0_scratch1) ↦[slotSet p]{fullShare} f : sProp 𝕄) := by
  unfold slotP
  rw [show (slotV vbM p).view.set = slotSet p from (View.set_reshape _ _).trans (View.set_slice_whole cc0_scratch1 _)]

/-- What the copies of an argument leave of it: the elements of no pair. -/
def restSet : Finset S16x4x64x64x128.Idx := Finset.univ \ Finset.univ.biUnion (srcSet c)

theorem key_split (f : Buf (Elt F) ((c : Thread nD τ).loc main_arg2)) :
    (full c main_arg2 f : sProp 𝕄) ⊣⊢ iprop((bigSep Finset.univ (srcP kM c f)) ∗ ((c : Thread nD τ).loc main_arg2) ↦[restSet c]{fullShare} f) := by
  have h := pointsTo_split_subset (Ix := Unit) (Name := ℕ) (U := UU) (Lvl := ℕ) (ℓ := (c : Thread nD τ).loc main_arg2) (q := fullShare) (f := f)
    (Finset.subset_univ (Finset.univ.biUnion (srcSet c)))
  have hb := Ring.pointsTo_sub_blocks (Ix := Unit) (Name := ℕ) (U := UU) (Lvl := ℕ) (ℓ := (c : Thread nD τ).loc main_arg2) (srcSet c) (srcSet_disjoint c) _ rfl (q := fullShare) f
  rw [show srcP kM c f = fun p => (((c : Thread nD τ).loc main_arg2) ↦[srcSet c p]{fullShare} f : sProp 𝕄) from funext (srcP_key c f), ← hb]
  exact h
theorem val_split (f : Buf (Elt F) ((c : Thread nD τ).loc main_arg3)) :
    (full c main_arg3 f : sProp 𝕄) ⊣⊢ iprop((bigSep Finset.univ (srcP vM c f)) ∗ ((c : Thread nD τ).loc main_arg3) ↦[restSet c]{fullShare} f) := by
  have h := pointsTo_split_subset (Ix := Unit) (Name := ℕ) (U := UU) (Lvl := ℕ) (ℓ := (c : Thread nD τ).loc main_arg3) (q := fullShare) (f := f)
    (Finset.subset_univ (Finset.univ.biUnion (srcSet c)))
  have hb := Ring.pointsTo_sub_blocks (Ix := Unit) (Name := ℕ) (U := UU) (Lvl := ℕ) (ℓ := (c : Thread nD τ).loc main_arg3) (srcSet c) (srcSet_disjoint c) _ rfl (q := fullShare) f
  rw [show srcP vM c f = fun p => (((c : Thread nD τ).loc main_arg3) ↦[srcSet c p]{fullShare} f : sProp 𝕄) from funext (srcP_val c f), ← hb]
  exact h

theorem slot_some_key (f : Buf (Elt F) ((c : Thread nD τ).loc cc0_scratch0)) (p : QH) :
    (((c : Thread nD τ).loc cc0_scratch0) ↦[slotSet p]{fullShare} f : sProp 𝕄) ⊢ iprop(∃ f, slotP kbM c p f) := by
  rw [← slotP_key c f p]
  iintro H
  iexists f
  iexact H
theorem kbuf_split (f : Buf (Elt F) ((c : Thread nD τ).loc cc0_scratch0)) :
    (full c cc0_scratch0 f : sProp 𝕄) ⊢ bigSep Finset.univ fun p => iprop(∃ f, slotP kbM c p f) := by
  refine (Entails.of_eq (Ring.pointsTo_sub_blocks (Ix := Unit) (Name := ℕ) (U := UU) (Lvl := ℕ) (ℓ := (c : Thread nD τ).loc cc0_scratch0) slotSet slotSet_disjoint Finset.univ (Finset.eq_univ_of_forall fun i => Finset.mem_biUnion.mpr (slotSet_all i)) f)).trans (bigSep_mono fun p _ => slot_some_key c f p)
theorem slot_some_val (f : Buf (Elt F) ((c : Thread nD τ).loc cc0_scratch1)) (p : QH) :
    (((c : Thread nD τ).loc cc0_scratch1) ↦[slotSet p]{fullShare} f : sProp 𝕄) ⊢ iprop(∃ f, slotP vbM c p f) := by
  rw [← slotP_val c f p]
  iintro H
  iexists f
  iexact H
theorem vbuf_split (f : Buf (Elt F) ((c : Thread nD τ).loc cc0_scratch1)) :
    (full c cc0_scratch1 f : sProp 𝕄) ⊢ bigSep Finset.univ fun p => iprop(∃ f, slotP vbM c p f) := by
  refine (Entails.of_eq (Ring.pointsTo_sub_blocks (Ix := Unit) (Name := ℕ) (U := UU) (Lvl := ℕ) (ℓ := (c : Thread nD τ).loc cc0_scratch1) slotSet slotSet_disjoint Finset.univ (Finset.eq_univ_of_forall fun i => Finset.mem_biUnion.mpr (slotSet_all i)) f)).trans (bigSep_mono fun p _ => slot_some_val c f p)

theorem kbuf_join (f₀ : Buf (Elt F) ((c : Thread nD τ).loc cc0_scratch0)) :
    (bigSep Finset.univ fun p => iprop(∃ f, slotP kbM c p f) : sProp 𝕄) ⊢ iprop(∃ f, full c cc0_scratch0 f) := by
  rw [show (fun p => iprop(∃ f, slotP kbM c p f)) = fun p => (iprop(∃ f, ((c : Thread nD τ).loc cc0_scratch0) ↦[slotSet p]{fullShare} f) : sProp 𝕄) from
    funext fun p => congrArg _ (funext fun f => slotP_key c f p)]
  exact Ring.pointsTo_sub_blocks_join_exists (Ix := Unit) (Name := ℕ) (U := UU) (Lvl := ℕ) (ℓ := (c : Thread nD τ).loc cc0_scratch0) slotSet slotSet_disjoint Finset.univ (Finset.eq_univ_of_forall fun i => Finset.mem_biUnion.mpr (slotSet_all i)) f₀
theorem vbuf_join (f₀ : Buf (Elt F) ((c : Thread nD τ).loc cc0_scratch1)) :
    (bigSep Finset.univ fun p => iprop(∃ f, slotP vbM c p f) : sProp 𝕄) ⊢ iprop(∃ f, full c cc0_scratch1 f) := by
  rw [show (fun p => iprop(∃ f, slotP vbM c p f)) = fun p => (iprop(∃ f, ((c : Thread nD τ).loc cc0_scratch1) ↦[slotSet p]{fullShare} f) : sProp 𝕄) from
    funext fun p => congrArg _ (funext fun f => slotP_val c f p)]
  exact Ring.pointsTo_sub_blocks_join_exists (Ix := Unit) (Name := ℕ) (U := UU) (Lvl := ℕ) (ℓ := (c : Thread nD τ).loc cc0_scratch1) slotSet slotSet_disjoint Finset.univ (Finset.eq_univ_of_forall fun i => Finset.mem_biUnion.mpr (slotSet_all i)) f₀

/-- The two arguments left in HBM. -/
def args : sProp 𝕄 := iprop(full c main_arg2 (m ((c : Thread nD τ).loc main_arg2)) ∗ full c main_arg3 (m ((c : Thread nD τ).loc main_arg3)))
/-- The semaphores of the local copies, at zero. -/
def slotSems : sProp 𝕄 := iprop((bigSep Finset.univ (semP cc0_scratch5 c)) ∗ bigSep Finset.univ (semP cc0_scratch6 c))
/-- The rest of the two arguments. -/
def rests : sProp 𝕄 :=
  iprop((((c : Thread nD τ).loc main_arg2) ↦[restSet c]{fullShare} m ((c : Thread nD τ).loc main_arg2))
    ∗ ((c : Thread nD τ).loc main_arg3) ↦[restSet c]{fullShare} m ((c : Thread nD τ).loc main_arg3))

theorem idle2_all : bigSepL pairs (idle2 m c)
    = iprop((bigSep Finset.univ (srcP kM c (m ((c : Thread nD τ).loc main_arg2))) ∗ bigSep Finset.univ (fun p => iprop(∃ f, slotP kbM c p f)) ∗ bigSep Finset.univ (semP cc0_scratch5 c))
      ∗ (bigSep Finset.univ (srcP vM c (m ((c : Thread nD τ).loc main_arg3))) ∗ bigSep Finset.univ (fun p => iprop(∃ f, slotP vbM c p f)) ∗ bigSep Finset.univ (semP cc0_scratch6 c))) := by
  rw [← bigSep_univ_eq_bigSepL pairs (by decide) (by decide)]
  unfold idle2 idle
  rw [bigSep_sep', bigSep_sep', bigSep_sep', bigSep_sep', bigSep_sep']

/-- Everything the local copies use, pair by pair, and what they leave alone; -/
theorem pairs_split : iprop(args m c ∗ slotSems c ∗ (∃ f, full c cc0_scratch0 f) ∗ ∃ f, full c cc0_scratch1 f) ⊢ iprop(bigSepL pairs (idle2 m c) ∗ rests m c) := by
  rw [idle2_all]
  unfold args slotSems rests
  iintro ⟨⟨HK, HV⟩, ⟨Hk, Hv⟩, ⟨%f, Hkb⟩, ⟨%g, Hvb⟩⟩
  ihave HK := (key_split c _).1 $$ HK
  icases HK with ⟨HK, HKr⟩
  ihave HV := (val_split c _).1 $$ HV
  icases HV with ⟨HV, HVr⟩
  ihave Hkb := (kbuf_split c f) $$ Hkb
  ihave Hvb := (vbuf_split c g) $$ Hvb
  isplitl [HK Hk Hkb HV Hv Hvb]
  · isplitl [HK Hk Hkb]
    · isplitl [HK]; · iexact HK
      isplitl [Hkb] <;> iassumption
    · isplitl [HV]; · iexact HV
      isplitl [Hvb] <;> iassumption
  isplitl [HKr] <;> iassumption

/-- and back. -/
theorem pairs_join (f₀ : Buf (Elt F) ((c : Thread nD τ).loc cc0_scratch0)) (g₀ : Buf (Elt F) ((c : Thread nD τ).loc cc0_scratch1)) :
    iprop(bigSepL pairs (idle2 m c) ∗ rests m c) ⊢ iprop(args m c ∗ slotSems c ∗ (∃ f, full c cc0_scratch0 f) ∗ ∃ f, full c cc0_scratch1 f) := by
  rw [idle2_all]
  unfold args slotSems rests
  iintro ⟨⟨⟨HK, Hkb, Hk⟩, HV, Hvb, Hv⟩, HKr, HVr⟩
  ihave Hkb := (kbuf_join c f₀) $$ Hkb
  ihave Hvb := (vbuf_join c g₀) $$ Hvb
  isplitl [HK HV HKr HVr]
  · isplitl [HK HKr]
    · iapply (key_split c _).2
      isplitl [HK] <;> iassumption
    · iapply (val_split c _).2
      isplitl [HV] <;> iassumption
  isplitl [Hk Hv]
  · isplitl [Hk] <;> iassumption
  isplitl [Hkb] <;> iassumption

end Split

/-! ## The body's run -/

section Run
variable (K : Dev nD × Ch → ℕ) (c : Dev nD)

theorem readX (f : FVec F S256x1024 .f32) :
    xM.view.readAt (Elt F) (Rect.unit (s := S256x1024) ![0, 0] S256x1024.size inb_S256x1024_S256x1024_0_0).toLoadRect f = f :=
  Memref.readAt_unit_zero (Elt F) cc0_stg0_0 hz2 _ f
theorem readWq (f : FVec F S1024x1024 .f32) :
    wqM.view.readAt (Elt F) (Rect.unit (s := S1024x1024) ![0, 0] S1024x1024.size inb_S1024x1024_S1024x1024_0_0).toLoadRect f = f :=
  Memref.readAt_unit_zero (Elt F) cc0_stg1_0 hz2 _ f

theorem wp_text {Q : PUnit → sProp 𝕄} (W : Waits sig Unit) (f2 f3 f4 fo) :
    iprop(records m K ∗ levAts L lv ∗ kits c ∗ owes (c : Thread nD τ) (O₀ c) W ∗ args m c ∗ slotSems c
        ∗ (∃ f, full c cc0_scratch0 f) ∗ (∃ f, full c cc0_scratch1 f)
        ∗ full c cc0_stg0_0 (xv m c) ∗ full c cc0_stg1_0 (wqv m c) ∗ full c cc0_stg2_0 (wov m c)
        ∗ full c cc0_scratch2 f2 ∗ full c cc0_scratch3 f3 ∗ full c cc0_scratch4 f4 ∗ full c cc0_stg3_0 fo)
      ⊢ iprop(((zeros c ∗ (∃ W, owes (c : Thread nD τ) 0 W) ∗ args m c ∗ slotSems c
              ∗ (∃ f, full c cc0_scratch0 f) ∗ (∃ f, full c cc0_scratch1 f)
              ∗ full c cc0_stg0_0 (xv m c) ∗ full c cc0_stg1_0 (wqv m c) ∗ full c cc0_stg2_0 (wov m c)
              ∗ (∃ f, full c cc0_scratch2 f) ∗ (∃ f, full c cc0_scratch3 f) ∗ (∃ f, full c cc0_scratch4 f) ∗ full c cc0_stg3_0 (outv m)) -∗ Q ⟨⟩)
          -∗ wp frame (wpE (defs₀ (F := F)) 𝒱₀ (c : Thread nD τ) none) Set.univ text Q) := by
  unfold text
  rw [wp_deviceId]
  iintro ⟨#HR, #Hlev, Hkits, HO, Ha, Hs, ⟨%f0, Hkb⟩, ⟨%f1, Hvb⟩, Hx, Hwq, Hwo, H2, H3, H4, Hout⟩ Hk
  ihave Hp := (pairs_split m c) $$ [Ha Hs Hkb Hvb]
  · isplitl [Ha]; · iexact Ha
    isplitl [Hs]; · iexact Hs
    isplitl [Hkb]; · iexists f0; iexact Hkb
    iexists f1; iexact Hvb
  icases Hp with ⟨Hp, Hrest⟩
  iapply (wp_starts m c pairs) $$ Hp
  iintro Hp
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hwq; iintro Hwq
  rw [readX, readWq]
  iapply (wp_tiles m c pairs f2 W) $$ [Hp H2 HO]
  · isplitl [Hp]; · iexact Hp
    isplitr; · iexact Hlev
    isplitl [H2]; · iexact H2
    iexact HO
  rw [ctx_done]
  iintro ⟨Hp, H2, ⟨%W', HO⟩⟩
  iapply (wp_tail m K c W' f3 f4 fo) $$ [Hkits HO H2 Hwo H3 H4 Hout]
  · isplitr; · iexact HR
    isplitr; · iexact Hlev
    isplitl [Hkits]; · iexact Hkits
    isplitl [HO]; · iexact HO
    isplitl [H2]; · iexact H2
    isplitl [Hwo]; · iexact Hwo
    isplitl [H3]; · iexact H3
    isplitl [H4]; · iexact H4
    iexact Hout
  iintro ⟨Hz, HO, H2, Hwo, H3, H4, Hout⟩
  ihave Hp := (pairs_join m c f0 f1) $$ [Hp Hrest]
  · isplitl [Hp] <;> iassumption
  icases Hp with ⟨Ha, Hs, Hkb, Hvb⟩
  iapply Hk
  isplitl [Hz]; · iexact Hz
  isplitl [HO]; · iexact HO
  isplitl [Ha]; · iexact Ha
  isplitl [Hs]; · iexact Hs
  isplitl [Hkb]; · iexact Hkb
  isplitl [Hvb]; · iexact Hvb
  isplitl [Hx]; · iexact Hx
  isplitl [Hwq]; · iexact Hwq
  isplitl [Hwo]; · iexact Hwo
  isplitl [H2]; · iexists _; iexact H2
  isplitl [H3]; · iexact H3
  isplitl [H4]; · iexact H4
  iexact Hout

end Run

end Cert.Attn
-- ==== Proof.Launch.lean ====
/-
# The launch

What the launch deals each device, how the devices' channels are opened and their tokens dealt around, and the run of
the whole program: every execution ends, the result holds `outv`, the arguments hold what they held and every semaphore
counter is zero.
-/
module

public import proofs.«01_k».proof.Proof.Body
public import Idealize.ShloMosaic.Lib.Pipeline.CollectiveSegs

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The channels' family, written out -/

theorem bigSep_ch (Φ : Ch → sProp 𝕄) : bigSep Finset.univ Φ
    = iprop(Φ B ∗ (Φ (X 0 0) ∗ Φ (X 0 1) ∗ Φ (X 0 2)) ∗ (Φ (X 1 0) ∗ Φ (X 1 1) ∗ Φ (X 1 2))
      ∗ (Φ (X 2 0) ∗ Φ (X 2 1) ∗ Φ (X 2 2)) ∗ (Φ (X 3 0) ∗ Φ (X 3 1) ∗ Φ (X 3 2))) := by
  rw [bigSep_univ_sum, bigSep_univ_prod, bigSep_fin4, bigSep_fin3, bigSep_fin3, bigSep_fin3, bigSep_fin3,
    bigSep_univ_eq_bigSepL [()] (by decide) (by decide)]
  rfl

/-! ## The launch's proof data -/

/-- What device `c`'s body starts from. -/
def start (c : Dev nD) : sProp 𝕄 := iprop((∃ K, records m K) ∗ levAts L lv ∗ kits c ∗ args m c ∗ slotSems c)

/-- The scratch buffers, at any contents. -/
def scratches (c : Dev nD) : sProp 𝕄 :=
  iprop((∃ f, full c cc0_scratch0 f) ∗ (∃ f, full c cc0_scratch1 f) ∗ (∃ f, full c cc0_scratch2 f) ∗ (∃ f, full c cc0_scratch3 f) ∗ ∃ f, full c cc0_scratch4 f)

def Φ₀ (c : Dev nD) : sProp 𝕄 := iprop(start m c ∗ scratches c)
def Φ₁ (c : Dev nD) : sProp 𝕄 := iprop((zeros c ∗ args m c ∗ slotSems c) ∗ scratches c)

def dats (_ : Fin 1) (c : Dev nD) : Dat τ (Elt F) Unit ℕ UU ℕ cfg0 c where
  A w := m ((cfg0.win w).arr.view.loc (c : Thread nD τ))
  after w _ := match w with
    | ⟨0, _⟩ => xv m c
    | ⟨1, _⟩ => wqv m c
    | ⟨2, _⟩ => wov m c
    | ⟨3, _⟩ => outv m
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body's obligation -/

section Body
variable (c : Dev nD)

/-- A staging buffer of device `c`, held whole at the contents `X`. -/
def stg (b : Ref sig .tc) (X : b.ty.Contents (Elt F)) : sProp 𝕄 :=
  iprop(∃ f : Buf (Elt F) ((c : Thread nD τ).loc b), ⌜f = X⌝ ∗ full c b f)

theorem owns_stg (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

theorem before0 (t : Fin cfg0.N) (d) : (dats m 0 c).before (0 : Fin 4) t d = xv m c := by
  unfold Dat.before; rw [if_pos (fetch0_0 t)]; rw [fin_N0 t]; rfl
theorem before1 (t : Fin cfg0.N) (d) : (dats m 0 c).before (1 : Fin 4) t d = wqv m c := by
  unfold Dat.before; rw [if_pos (fetch0_1 t)]; rw [fin_N0 t]; rfl
theorem before2 (t : Fin cfg0.N) (d) : (dats m 0 c).before (2 : Fin 4) t d = wov m c := by
  unfold Dat.before; rw [if_pos (fetch0_2 t)]; rw [fin_N0 t]; rfl

def bodyPre : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost : sProp 𝕄 :=
  iprop(Φ₁ m c ∗ (dats m 0 c).owesAt () t0_0.succ ∗ stg c cc0_stg0_0 (xv m c) ∗ stg c cc0_stg1_0 (wqv m c) ∗ stg c cc0_stg2_0 (wov m c)
    ∗ stg c cc0_stg3_0 (outv m))

theorem sound_body : bodyPre m c ⊢ wp frame (wpE (defs₀ (F := F)) 𝒱₀ (c : Thread nD τ) none) Set.univ text (fun _ => bodyPost m c) := by
  unfold bodyPre Φ₀ start scratches stg Dat.owesAt Pipeline.owesWithin
  simp only [before0, before1, before2]
  rw [show (dats m 0 c).owed t0_0.castSucc = O₀ c from rfl]
  iintro ⟨⟨⟨⟨%K, #HR⟩, #Hlev, Hkits, Ha, Hs⟩, H0, H1, ⟨%f2, H2⟩, ⟨%f3, H3⟩, ⟨%f4, H4⟩⟩, ⟨%W, -, HO⟩, ⟨%_, %g0, %e0, Hx⟩, ⟨%_, %g1, %e1, Hwq⟩, ⟨%_, %g2, %e2, Hwo⟩, ⟨%_, %g3, %e3, Hout⟩⟩
  subst e0 e1 e2 e3
  iapply (wp_text m K c W f2 f3 f4 _) $$ [Hkits Ha Hs H0 H1 H2 H3 H4 HO Hx Hwq Hwo Hout]
  · isplitr; · iexact HR
    isplitr; · iexact Hlev
    isplitl [Hkits]; · iexact Hkits
    isplitl [HO]; · iexact HO
    isplitl [Ha]; · iexact Ha
    isplitl [Hs]; · iexact Hs
    isplitl [H0]; · iexact H0
    isplitl [H1]; · iexact H1
    isplitl [Hx]; · iexact Hx
    isplitl [Hwq]; · iexact Hwq
    isplitl [Hwo]; · iexact Hwo
    isplitl [H2]; · iexact H2
    isplitl [H3]; · iexact H3
    isplitl [H4]; · iexact H4
    iexact Hout
  iintro ⟨Hz, ⟨%W', HO⟩, Ha, Hs, H0, H1, Hx, Hwq, Hwo, H2, H3, H4, Hout⟩
  unfold bodyPost Φ₁ scratches stg Dat.owesAt Pipeline.owesWithin
  rw [show (dats m 0 c).owed t0_0.succ = 0 from rfl]
  isplitl [Hz Ha Hs H0 H1 H2 H3 H4]
  · isplitl [Hz Ha Hs]
    · isplitl [Hz]; · iexact Hz
      isplitl [Ha] <;> iassumption
    isplitl [H0]; · iexact H0
    isplitl [H1]; · iexact H1
    isplitl [H2]; · iexact H2
    isplitl [H3] <;> iassumption
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

set_option maxRecDepth 40000 in
theorem body_obligation : BodyObligation (dats (F := F) m 0 c) (defs₀ (F := F)) 𝒱₀ () Set.univ := fun t => by
  rw [fin_N0 t, bigSep_W0, bigSep_W0]
  simp only [owns_stg]
  show bodyPre m c ⊢ wp frame (wpE (defs₀ (F := F)) 𝒱₀ (c : Thread nD τ) none) Set.univ (bodyAt0 (F := F) t0_0) (fun _ => bodyPost m c)
  rw [body_text]
  exact sound_body m c

end Body

end Cert.Attn
-- ==== Proof.Run.lean ====
/-
# The run

How the devices' channels are opened at launch and their tokens dealt around, and the run of the whole program: every
execution ends, the windows' arrays hold what the launch's data says, the keys and values hold what they held and every
semaphore counter is zero.
-/
module

public import proofs.«01_k».proof.Proof.Launch

@[expose] public section

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## Families -/

theorem bigSep_or {I J : Type} [Fintype I] [Fintype J] [DecidableEq I] [DecidableEq J] (Φ : I ⊕ J → sProp 𝕄) :
    bigSep Finset.univ Φ = iprop((bigSep Finset.univ fun i => Φ (.inl i)) ∗ bigSep Finset.univ fun j => Φ (.inr j)) := bigSep_univ_sum Φ

theorem bigSep_rounds (Φ : Fin 4 × Fin 3 → sProp 𝕄) : bigSep Finset.univ Φ
    = iprop((Φ (0, 0) ∗ Φ (0, 1) ∗ Φ (0, 2)) ∗ (Φ (1, 0) ∗ Φ (1, 1) ∗ Φ (1, 2)) ∗ (Φ (2, 0) ∗ Φ (2, 1) ∗ Φ (2, 2)) ∗ (Φ (3, 0) ∗ Φ (3, 1) ∗ Φ (3, 2))) := by
  rw [bigSep_univ_prod, bigSep_fin4, bigSep_fin3, bigSep_fin3, bigSep_fin3, bigSep_fin3]

theorem bigSep_unit (Φ : Unit → sProp 𝕄) : bigSep Finset.univ Φ = Φ () := bigSep_univ_eq_bigSepL [()] (by decide) (by decide) Φ

/-! ## The tokens -/

/-- A duty of a channel: one of a barrier's three, or the one of another channel. -/
abbrev Du : Type := Fin 3 ⊕ (Fin 4 × Fin 3)

/-- The device that pays device `c`'s duty; paying is mutual. -/
def payer : Du → Dev nD ≃ Dev nD
  | .inl r => prE r
  | .inr (0, _) => Equiv.refl _
  | .inr (1, r) => prE r
  | .inr (2, _) => Equiv.refl _
  | .inr (3, r) => prE r

def tokOf (x : Dev nD × Du) : GSem nD τ sig × ℕ × Fin 3 := match x.2 with
  | .inl r => (cell x.1 B, 0, r)
  | .inr (k, r) => (cell x.1 (X k r), 0, 0)

theorem tokOf_injective : Function.Injective tokOf := by
  rintro ⟨c, d⟩ ⟨c', d'⟩ h
  rcases d with r | ⟨k, r⟩ <;> rcases d' with r' | ⟨k', r'⟩
  · have h1 : cell c B = cell c' B := congrArg Prod.fst h
    have h2 : r = r' := congrArg (fun x => x.2.2) h
    have h3 : c = c' := congrArg Prod.fst (cell_injective (a₁ := (c, B)) (a₂ := (c', B)) h1)
    rw [h3, h2]
  · have h1 : cell c B = cell c' (X k' r') := congrArg Prod.fst h
    have h3 := cell_injective (a₁ := (c, B)) (a₂ := (c', X k' r')) h1
    exact absurd (congrArg Prod.snd h3) (by simp)
  · have h1 : cell c (X k r) = cell c' B := congrArg Prod.fst h
    have h3 := cell_injective (a₁ := (c, X k r)) (a₂ := (c', B)) h1
    exact absurd (congrArg Prod.snd h3) (by simp)
  · have h1 : cell c (X k r) = cell c' (X k' r') := congrArg Prod.fst h
    have h3 := cell_injective (a₁ := (c, X k r)) (a₂ := (c', X k' r')) h1
    have h4 : (k, r) = (k', r') := Sum.inr.inj (congrArg Prod.snd h3)
    have h5 : c = c' := congrArg Prod.fst h3
    rw [h5, h4]

def tok (x : Dev nD × Du) : sProp 𝕄 := dutyTok ER (tokOf x).1 (tokOf x).2.1 (tokOf x).2.2

/-- The tokens of a device's own channels, and those of the duties it pays. -/
def ownToks (c : Dev nD) : sProp 𝕄 := bigSep Finset.univ fun d : Du => tok (c, d)
def payToks (c : Dev nD) : sProp 𝕄 := bigSep Finset.univ fun d : Du => tok (payer d c, d)

theorem tok_bar (c : Dev nD) (r : Fin 3) : (tok (payer (.inl r) c, .inl r) : sProp 𝕄) = dutyTok ER (cell (pr r c) B) 0 r := rfl
theorem tok_own0 (c : Dev nD) (r : Fin 3) : (tok (payer (.inr (0, r)) c, .inr (0, r)) : sProp 𝕄) = dutyTok ER (cell c (X 0 r)) 0 0 := rfl
theorem tok_pair1 (c : Dev nD) (r : Fin 3) : (tok (payer (.inr (1, r)) c, .inr (1, r)) : sProp 𝕄) = dutyTok ER (cell (pr r c) (X 1 r)) 0 0 := rfl
theorem tok_own2 (c : Dev nD) (r : Fin 3) : (tok (payer (.inr (2, r)) c, .inr (2, r)) : sProp 𝕄) = dutyTok ER (cell c (X 2 r)) 0 0 := rfl
theorem tok_pair3 (c : Dev nD) (r : Fin 3) : (tok (payer (.inr (3, r)) c, .inr (3, r)) : sProp 𝕄) = dutyTok ER (cell (pr r c) (X 3 r)) 0 0 := rfl

theorem toks_around : (bigSep Finset.univ fun c : Dev nD => (ownToks c : sProp 𝕄)) = bigSep Finset.univ fun c : Dev nD => payToks c := by
  unfold ownToks payToks
  rw [bigSep_univ_comm, bigSep_univ_comm (fun (c : Dev nD) (d : Du) => (tok (payer d c, d) : sProp 𝕄))]
  exact bigSep_congr fun d _ => bigSep_univ_equiv (payer d) (fun c : Dev nD => (tok (c, d) : sProp 𝕄))

/-! ## What the launch element deals -/

def ringCells : Finset (GSem nD τ sig) := Finset.univ.map ⟨fun x : Dev nD × Ch => cell x.1 x.2, cell_injective⟩
def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, 1))

theorem u₀_split : (ownU u₀ : sProp 𝕄)
    ⊢ iprop(BI.own (EP (initOf (Pipeline.cells cfgs cellOf_inj) (Pipeline.launchToks cfgs cellOf_inj))) ∗ BI.own (ER (initOf ringCells ringToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (_, (1 : Counters)))))

def G (c : Dev nD) : sProp 𝕄 :=
  iprop((bigSep Finset.univ fun ch : Ch => roundState ER (Rd m) (cell c ch) 0)
    ∗ (bigSep Finset.univ fun ch : Ch => iprop(posn c ch ∗ reached ER (cell c ch) 0)) ∗ ownToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun ch : Ch => Φ (cell c ch) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posn; simp only [bigSep_sep']
  isplitl [Hst']; · iexact Hst'
  isplitl [Hat' Hr']
  · isplitl [Hat'] <;> iassumption
  iexact Htok'

/-! ## The semaphores -/

/-- The kernel's own semaphores: the local copies', then the rounds'. -/
def osem : QH ⊕ (QH ⊕ (Fin 4 × Fin 3)) → SemLoc sig
  | .inl p => .dma (slotS cc0_scratch5 p)
  | .inr (.inl p) => .dma (slotS cc0_scratch6 p)
  | .inr (.inr x) => csem (.inr x)

theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop((bigSep Finset.univ (semP cc0_scratch5 c)) ∗ (bigSep Finset.univ (semP cc0_scratch6 c))
      ∗ bigSep Finset.univ fun x : Fin 4 × Fin 3 => semVal (cell c (.inr x)) 0) := by
  unfold Pipeline.ownSems0
  rw [bigSep_or, bigSep_or]
  rfl

theorem unscopedSems0_eq (c : Dev nD) : (unscopedSems0 c : sProp 𝕄) = semVal (cell c B) 0 := by
  unfold unscopedSems0; rw [bigSep_eq_bigSepL_of_eq [SemLoc.reg bar] (by decide) (by decide)]; rfl

theorem sems_open (c : Dev nD) :
    iprop(Pipeline.ownSems0 (Ix := Unit) (Name := ℕ) (U := UU) (Lvl := ℕ) (Val := Elt F) (τ := τ) osem c ∗ unscopedSems0 c)
      ⊢ (iprop(slotSems c ∗ bigSep Finset.univ fun ch : Ch => semVal (cell c ch) 0) : sProp 𝕄) := by
  rw [ownSems0_eq, unscopedSems0_eq, bigSep_or, bigSep_unit]
  unfold slotSems
  iintro ⟨⟨H5, H6, HX⟩, HB⟩
  isplitl [H5 H6]
  · isplitl [H5] <;> iassumption
  isplitl [HB]; · iexact HB
  iexact HX

theorem sems_shut (c : Dev nD) :
    (iprop(slotSems c ∗ zeros c) : sProp 𝕄)
      ⊢ iprop(Pipeline.ownSems0 (Ix := Unit) (Name := ℕ) (U := UU) (Lvl := ℕ) (Val := Elt F) (τ := τ) osem c ∗ unscopedSems0 c) := by
  rw [ownSems0_eq, unscopedSems0_eq, bigSep_rounds]
  unfold slotSems zeros
  iintro ⟨⟨H5, H6⟩, HB, ⟨⟨H00, H10⟩, ⟨H01, H11⟩, H02, H12⟩, ⟨H20, H30⟩, ⟨H21, H31⟩, H22, H32⟩
  isplitr [HB]
  · isplitl [H5]; · iexact H5
    isplitl [H6]; · iexact H6
    isplitl [H00 H01 H02]
    · isplitl [H00]; · iexact H00
      isplitl [H01] <;> iassumption
    isplitl [H10 H11 H12]
    · isplitl [H10]; · iexact H10
      isplitl [H11] <;> iassumption
    isplitl [H20 H21 H22]
    · isplitl [H20]; · iexact H20
      isplitl [H21] <;> iassumption
    isplitl [H30]; · iexact H30
    isplitl [H31] <;> iassumption
  iexact HB

/-! ## Opening the channels -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ch : Ch => iprop(∃ κ : ℕ, cellInv ER (Rd m) κ (cell c ch)))
          ∗ (bigSep Finset.univ fun ch : Ch => iprop(posn c ch ∗ reached ER (cell c ch) 0)) ∗ ownToks c ∗ slotSems c) := by
  unfold G
  iintro ⟨Hos, Hus, Hst, Hat, Htok⟩
  ihave Hv := (sems_open (F := F) c) $$ [Hos Hus]
  · isplitl [Hos] <;> iassumption
  icases Hv with ⟨Hslot, Hv⟩
  imod (show iprop((bigSep Finset.univ fun ch : Ch => semVal (cell c ch) 0) ∗ bigSep Finset.univ fun ch : Ch => roundState ER (Rd m) (cell c ch) 0)
      ⊢ (|={Set.univ}=> bigSep Finset.univ fun ch => iprop(∃ κ : ℕ, cellInv ER (Rd m) κ (cell c ch)) : sProp 𝕄) from by
        rw [← bigSep_sep']
        exact (bigSep_mono fun ch _ => (Rounds.body_intro ER (Rd m) (cell c ch)).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What stays with device `c`: its positions, the tokens of the duties it pays, the local copies' semaphores. -/
def linear (c : Dev nD) : sProp 𝕄 := iprop((bigSep Finset.univ fun ch : Ch => posn c ch) ∗ payToks c ∗ slotSems c)

def G' (c : Dev nD) : sProp 𝕄 := iprop((∃ K, records m K) ∗ linear c)

theorem ghost_intro (K : Dev nD × Ch → ℕ) (c : Dev nD) : iprop(records m K ∗ linear c) ⊢ G' m c := by
  unfold G'
  iintro ⟨HR, Hl⟩
  isplitl [HR]; · iexists K; iexact HR
  iexact Hl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun ch : Ch => iprop(∃ κ : ℕ, cellInv ER (Rd m) κ (cell c ch)))
          ∗ (bigSep Finset.univ fun ch : Ch => iprop(posn c ch ∗ reached ER (cell c ch) 0)) ∗ ownToks c ∗ slotSems c) : sProp 𝕄)
      ⊢ bigSep Finset.univ (G' m) := by
  rw [bigSep_sep', bigSep_sep', bigSep_sep', ← bigSep_univ_prod (fun x : Dev nD × Ch => iprop(∃ κ : ℕ, cellInv ER (Rd m) κ (cell x.1 x.2))),
    bigSep_congr (s := Finset.univ) (fun (c : Dev nD) _ => bigSep_sep' Finset.univ (fun ch : Ch => (posn c ch : sProp 𝕄)) (fun ch => reached ER (cell c ch) 0)),
    bigSep_sep', ← bigSep_univ_prod (fun x : Dev nD × Ch => (reached ER (cell x.1 x.2) 0 : sProp 𝕄)), toks_around]
  iintro ⟨HI, ⟨Hat, #HR⟩, Htok, Hslot⟩
  ihave HK := (BI.bigSep_exists_pi Finset.univ (fun (x : Dev nD × Ch) (κ : ℕ) => (cellInv ER (Rd m) κ (cell x.1 x.2) : sProp 𝕄))) $$ HI
  icases HK with ⟨%K, #HI⟩
  iapply (with_persistent (R := records m K) fun c _ => ghost_intro m K c)
  isplitr
  · unfold records; isplitl; · iexact HI
    iexact HR
  · unfold linear
    rw [bigSep_sep', bigSep_sep']
    isplitl [Hat]; · iexact Hat
    isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- What the devices owe a channel. -/
def due (ch : Ch) : ℕ := (ent.map fun e => if e.2 = ch then amt e.2 else 0).sum

theorem due_bar : due B = 3 := by simp [due, ent, amt]
theorem due_scatter (r : Fin 3) : due (X 1 r) = credit r := by fin_cases r <;> simp [due, ent, amt]
theorem due_gather (r : Fin 3) : due (X 3 r) = credit r := by fin_cases r <;> simp [due, ent, amt]

theorem sum_tal (c : Dev nD) (ch : Ch) : ∀ es : List (Fin 3 × Ch),
    ∑ d : Dev nD, tal d es (cell c ch) () = (es.map fun e => if e.2 = ch then amt e.2 else 0).sum
  | [] => Finset.sum_const_zero
  | e :: es => by
    have h1 : ∀ d : Dev nD, tal d (e :: es) (cell c ch) () = tal d es (cell c ch) () + if d = pr e.1 c then (if e.2 = ch then amt e.2 else 0) else 0 := fun d => by
      show (tal d es + tallyAt (cell (pr e.1 d) e.2) () (amt e.2)) (cell c ch) () = _
      rw [Pi.add_apply, Finsupp.add_apply, tallyAt_apply]
      congr 1
      by_cases hd : d = pr e.1 c
      · subst hd
        rw [if_pos rfl, pr_pr]
        by_cases he : e.2 = ch
        · subst he; rw [if_pos ⟨rfl, rfl⟩, if_pos rfl]
        · rw [if_neg he, if_neg fun h => he (congrArg Prod.snd (cell_injective (a₁ := (c, ch)) (a₂ := (c, e.2)) h.1)).symm]
      · rw [if_neg hd, if_neg fun h => hd (by
          have := congrArg Prod.fst (cell_injective (a₁ := (c, ch)) (a₂ := (pr e.1 d, e.2)) h.1)
          dsimp only at this
          rw [this, pr_pr])]
    rw [Finset.sum_congr rfl fun d _ => h1 d, Finset.sum_add_distrib, sum_tal c ch es, Finset.sum_ite_eq' Finset.univ (pr e.1 c), if_pos (Finset.mem_univ _),
      List.map_cons, List.sum_cons, Nat.add_comm]

theorem launch_at (c : Dev nD) (ch : Ch) :
    tallyOn (cell c ch) (launchCredit (Pipeline.owing O₀) 0 (cell c ch)) = (tallyAt (cell c ch) () (due ch) : CellTallies nD τ sig Unit) := by
  unfold tallyAt; refine congrArg _ (Finsupp.ext fun u => ?_); cases u
  rw [Pipeline.launchCredit_owing, Finsupp.single_eq_same]
  exact sum_tal c ch ent

theorem creds (c : Dev nD) : (Pipeline.launchCred O₀ c : sProp 𝕄) ⊢ bigSep Finset.univ fun ch : Ch => cred (tallyAt (cell c ch) () (due ch)) := by
  unfold Pipeline.launchCred
  refine (bigSep_subset (Finset.subset_univ (Finset.univ.map ⟨csem, csem_injective⟩))).trans ?_
  rw [bigSep_map]
  exact bigSep_mono fun ch _ => Entails.of_eq (congrArg cred (launch_at c ch))

theorem kits_intro (c : Dev nD) :
    iprop((bigSep Finset.univ fun ch : Ch => posn c ch) ∗ payToks c ∗ bigSep Finset.univ fun ch : Ch => cred (tallyAt (cell c ch) () (due ch)))
      ⊢ (kits c : sProp 𝕄) := by
  unfold payToks
  rw [bigSep_ch, bigSep_ch, bigSep_or, bigSep_rounds, bigSep_fin3,
    due_bar, due_scatter, due_scatter, due_scatter, due_gather, due_gather, due_gather]
  simp only [tok_bar, tok_own0, tok_pair1, tok_own2, tok_pair3]
  unfold kits barKit kit
  iintro ⟨⟨pB, ⟨p00, p01, p02⟩, ⟨p10, p11, p12⟩, ⟨p20, p21, p22⟩, p30, p31, p32⟩,
    ⟨⟨tB0, tB1, tB2⟩, ⟨t00, t01, t02⟩, ⟨t10, t11, t12⟩, ⟨t20, t21, t22⟩, t30, t31, t32⟩,
    cB, -, ⟨c10, c11, c12⟩, -, c30, c31, c32⟩
  isplitl [pB cB tB0 tB1 tB2]
  · isplitl [pB]; · iexact pB
    isplitl [cB]; · iexact cB
    isplitl [tB0]; · iexact tB0
    isplitl [tB1] <;> iassumption
  isplitl [p00 p01 p02 p10 p11 p12 t00 t01 t02 t10 t11 t12 c10 c11 c12]
  · isplitl [p00 p10 c10 t00 t10]
    · isplitl [p00]; · iexact p00
      isplitl [p10]; · iexact p10
      isplitl [c10]; · iexact c10
      isplitl [t00] <;> iassumption
    isplitl [p01 p11 c11 t01 t11]
    · isplitl [p01]; · iexact p01
      isplitl [p11]; · iexact p11
      isplitl [c11]; · iexact c11
      isplitl [t01] <;> iassumption
    isplitl [p02]; · iexact p02
    isplitl [p12]; · iexact p12
    isplitl [c12]; · iexact c12
    isplitl [t02] <;> iassumption
  isplitl [p20 p30 c30 t20 t30]
  · isplitl [p20]; · iexact p20
    isplitl [p30]; · iexact p30
    isplitl [c30]; · iexact c30
    isplitl [t20] <;> iassumption
  isplitl [p21 p31 c31 t21 t31]
  · isplitl [p21]; · iexact p21
    isplitl [p31]; · iexact p31
    isplitl [c31]; · iexact c31
    isplitl [t21] <;> iassumption
  isplitl [p22]; · iexact p22
  isplitl [p32]; · iexact p32
  isplitl [c32]; · iexact c32
  isplitl [t22] <;> iassumption

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  iintro ⟨Ha, Hlev, Hcr, -, HG⟩
  ihave Ha := (Entails.of_eq (unscopedRest0_eq (Ix := Unit) (Name := ℕ) (U := UU) (Lvl := ℕ) c fun b => m ((c : Thread nD τ).loc b))) $$ Ha
  ihave Hc := (creds (F := F) c) $$ Hcr
  unfold G' linear
  icases HG with ⟨HR, Hp, Ht, Hs⟩
  ihave Hk := (kits_intro (F := F) c) $$ [Hp Ht Hc]
  · isplitl [Hp]; · iexact Hp
    isplitl [Ht] <;> iassumption
  imodintro
  unfold start args
  isplitl
  · isplitl [HR]; · iexact HR
    isplitl [Hlev]; · iexact Hlev
    isplitl [Hk]; · iexact Hk
    isplitl [Ha] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches
  iintro ⟨Hs, -, Hr⟩
  isplitl [Hs] <;> iassumption

theorem phi1_exit (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = Φ₁ m c from rfl, scopedRest0_eq]
  unfold Φ₁ scratches
  iintro ⟨⟨Hz, Ha, Hs⟩, Hr⟩
  ihave H := (sems_shut (F := F) c) $$ [Hs Hz]
  · isplitl [Hs] <;> iassumption
  icases H with ⟨Ho, Hu⟩
  isplitl [Hu Ha]
  · isplitl [Hu] <;> iassumption
  isplitl [Ho] <;> iassumption

theorem stage_low : ∀ (w : Fin cfg0.W) s, slv (.dma ((cfg0.win w).sem s)) = 0 := by
  intro w s; fin_cases w <;> fin_cases s <;> decide +kernel

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ ent fun e he => by rw [stage_low w s]; exact ent_pos e he
    · exact mayWait c _ [] fun e he => absurd he List.not_mem_nil

theorem share_eq (c : Dev nD) (w : Fin cfg0.W) : (dats m 0 c).share w = fullShare := by unfold Dat.share; split <;> rfl

/-! ## The run -/

/-- The windows' arrays as the run leaves them, and the two arguments left in HBM. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ r.2.mem ((c : Thread nD τ).loc main_arg2) = m ((c : Thread nD τ).loc main_arg2)
    ∧ r.2.mem ((c : Thread nD τ).loc main_arg3) = m ((c : Thread nD τ).loc main_arg3)

set_option maxRecDepth 40000 in
/-- At eight devices, for any float values, from any memory with zero counters: every weakly fair execution ends, the
    arrays of the windows hold what the launch's data says, the two arguments left in place are unchanged and every
    counter is zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      ihave H := (u₀_split (F := F)) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => by
      unfold args
      iintro ⟨⟨Hu, H2, H3⟩, -, HSI⟩
      icombine HSI H2 gives %h2
      icombine HSI H3 gives %h3
      imod (Pipeline.unscopedSems0_read (X := unscopedSems0 c) (c := c) fupd_intro s') $$ [Hu HSI] with ⟨%hu, HSI⟩
      · isplitl [Hu] <;> iassumption
      imodintro
      isplitr
      · ipureintro
        exact ⟨hu, Buf.eq_of_forall_mem_univ h2, Buf.eq_of_forall_mem_univ h3⟩
      iexact HSI)
    (hQ := fun _ h hs => ⟨fun c => ⟨(h c).1, (h c).2.2.2⟩, sem_eq_zero hs fun c => (h c).2.2.1⟩)

end Cert.Attn
-- ==== Proof.Frames.lean ====
/-
# The run read at the result and at the arguments, and the frames

The run of Run.lean ends with the windows' arrays as the pipeline's data says; here they are read: the three input
arrays are unchanged and the result array holds `outv`. The frames of the kernel follow, at both readings of its
text, and that of the reference.
-/
module

public import proofs.«01_k».proof.Proof.Run
public import proofs.«01_k».proof.Defs
public import proofs.«01_k».proof.Proof.Gen.Kernel
public import proofs.«01_k».proof.Proof.Gen.Pre_finite_KernelIdeal
public import proofs.«01_k».proof.Proof.Gen.Pre_finite_ReferenceIdeal
public import Idealize.ShloMosaic.Lib.Pipeline.ValueKit
public import proofs.«01_k».proof.Proof.Gen.ReferenceIdeal.Run

@[expose] public section

noncomputable section

namespace Cert.Attn

open Cert.KernelIdeal Cert.KernelIdeal.Gen
open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

/-- The result window's array after the launch is the value its one point writes. -/
theorem arrAt_out (c : Dev nD) : (dats m 0 c).arrAt (3 : Fin cfg0.W) cfg0.N = outv m := by
  refine (dats m 0 c).arrAt_eq_of_after_last (3 : Fin cfg0.W) t0_0 (by decide +kernel) _ fun j => ?_
  blk_simp
  rfl

/-- Every result holds `outv`, every argument is unchanged. -/
def Ends (r : PUnit × MemSt nD τ sig (Elt F)) (c : Dev nD) : Prop :=
  r.2.mem ((c : Thread nD τ).loc main_v1) = outv m
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)

theorem ends_of {r : PUnit × MemSt nD τ sig (Elt F)} (h : QC m r) (c : Dev nD) : Ends m r c :=
  ⟨((h c).1 3).trans (arrAt_out m c), ((h c).1 0).trans ((dats m 0 c).arrAt_in (0 : Fin cfg0.W) rfl _),
    ((h c).1 1).trans ((dats m 0 c).arrAt_in (1 : Fin cfg0.W) rfl _), (h c).2.1, (h c).2.2,
    ((h c).1 2).trans ((dats m 0 c).arrAt_in (2 : Fin cfg0.W) rfl _)⟩

/-- For any float values: the kernel ends, every device's result is `outv`, the arguments are unchanged and every
    counter is zero. -/
theorem run_ends : θ_run defs (onTc (τ := τ) (main (F := F))) ⟨m, fun _ => 0, ρ⟩
    (fun r => (∀ c, Ends m r c) ∧ r.2.sem = fun _ => 0) :=
  (θ_run defs _ _).mono (fun _ h => ⟨ends_of m h.1, h.2⟩) (run_main m ρ)

/-- The arguments unchanged and every counter zero. -/
theorem run_frame : θ_run defs (onTc (τ := τ) (main (F := F))) ⟨m, fun _ => 0, ρ⟩
    (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => (h.1 c).2, h.2⟩) (run_ends m ρ)

/-- The frame of the kernel over the extended reals, whatever its arguments hold. -/
theorem frame_ideal : Cert.quiescent_KernelIdeal := fun m ρ _ => run_frame (F := Ideal) m ρ

/-- The same, where the claim has a precondition. -/
theorem frame_ideal_pre : Cert.quiescent_KernelIdeal_pre_finite_KernelIdeal (hPre_finite_KernelIdeal := Cert.Pre_finite_KernelIdeal.Gen.facts) :=
  fun m ρ _ => run_frame (F := Ideal) m ρ

/-- The kernel's body table on bit patterns is the idealized program's. -/
theorem defs₀_eq : @Cert.Kernel.defs₀ F _ _ = @Cert.KernelIdeal.defs₀ F _ _ := by
  unfold Cert.Kernel.defs₀ Cert.KernelIdeal.defs₀
  congr 1
  funext a b
  rcases a with ⟨_ | _, h⟩
  all_goals rfl

theorem defs_eq : @Cert.Kernel.defs F _ _ = @Cert.KernelIdeal.defs F _ _ := by
  unfold Cert.Kernel.defs Cert.KernelIdeal.defs
  rw [defs₀_eq]
  rfl

/-- The frame of the kernel on bit patterns: its text is the same, so the run over any float values serves. -/
theorem frame_kernel : Cert.quiescent_Kernel := by
  intro m ρ _
  have h := run_frame (F := Bits) m ρ
  rw [← defs_eq] at h
  exact h

/-- The frame of the reference, which has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The same, where the claim has a precondition. -/
theorem frame_reference_pre :
    Cert.quiescent_ReferenceIdeal_pre_finite_ReferenceIdeal (hPre_finite_ReferenceIdeal := Cert.Pre_finite_ReferenceIdeal.Gen.facts) :=
  fun m ρ _ => frame_reference m ρ trivial

end Cert.Attn
-- ==== Proof.Reads.lean ====
/-
# What the kernel reads, at an index

The blocks that the launch copies are the arguments themselves, and a pair's keys and values are the elements of its
query block's residue class at its head.
-/
module

public import proofs.«01_k».proof.Proof.Frames
public import Idealize.ShloMosaic.Lib.Pointwise

@[expose] public section

noncomputable section

namespace Cert.Attn

open Cert.KernelIdeal Cert.KernelIdeal.Gen
open Idealize.ShloMosaic
open Idealize.ShloMosaic.TcCoe
open Idealize.SL Idealize.SL.Sem

variable {F : FTy → Type} [FloatOps F]
variable (m : (ℓ : Loc nD τ sig) → Buf (Elt F) ℓ)

theorem xv_eq (c : Dev nD) : xv m c = m ((c : Thread nD τ).loc main_arg0) :=
  funext fun j => congrArg (m ((c : Thread nD τ).loc main_arg0)) (funext fun a => Fin.ext (win0_0.rect_emb_val_of_index_zero (0 : Fin 1) a (by revert a; decide) j))
theorem wqv_eq (c : Dev nD) : wqv m c = m ((c : Thread nD τ).loc main_arg1) :=
  funext fun j => congrArg (m ((c : Thread nD τ).loc main_arg1)) (funext fun a => Fin.ext (win0_1.rect_emb_val_of_index_zero (0 : Fin 1) a (by revert a; decide) j))
theorem wov_eq (c : Dev nD) : wov m c = m ((c : Thread nD τ).loc main_arg4) :=
  funext fun j => congrArg (m ((c : Thread nD τ).loc main_arg4)) (funext fun a => Fin.ext (win0_2.rect_emb_val_of_index_zero (0 : Fin 1) a (by revert a; decide) j))

theorem head_lt (c : Dev nD) (p : QH) : 8 * c.val + p.2.val < 64 := by
  have h1 : c.val < 8 := c.isLt
  have h2 : p.2.val < 8 := p.2.isLt
  omega

/-- Where a pair's tile of keys (or values) has its element: the block's residue class at the device's head. -/
def srcIx (c : Dev nD) (p : QH) (a : Fin 16) (b : Fin 64) (e : Fin 128) : S16x4x64x64x128.Idx :=
  ix5 a p.1 b ⟨8 * c.val + p.2.val, head_lt c p⟩ e

theorem src_squeezed (a : Fin 16) (b : Fin 64) (e : Fin 128) :
    Shape.reshapeEquiv squeezes_S16x1x64x1x128_S16x64x128.numel_eq (ix3 a b e) = ix5 a (0 : Fin 1) b (0 : Fin 1) e := by
  pointwise

theorem src_idx (c : Dev nD) (p : QH) (a : Fin 16) (b : Fin 64) (e : Fin 128) :
    (Rect.unit (s := S16x4x64x64x128) (srcOff c p) S16x1x64x1x128.size (srcOff_inb c p)).emb (ix5 a (0 : Fin 1) b (0 : Fin 1) e)
      = srcIx c p a b e := by
  have h : ∀ x, srcOff c p x = (![0, p.1.val, 0, 8 * c.val + p.2.val, 0] : Fin 5 → ℕ) x := fun x => congrFun (srcOff_eq c p) x
  funext x
  apply Fin.ext
  show srcOff c p x + 1 * _ = _
  rw [h x, Nat.one_mul]
  fin_cases x
  · exact Nat.zero_add _
  · exact Nat.add_zero _
  · exact Nat.zero_add _
  · exact Nat.add_zero _
  · exact Nat.zero_add _

theorem src_emb (c : Dev nD) (p : QH) (a : Fin 16) (b : Fin 64) (e : Fin 128) :
    (srcV kM c p).view.emb (ix3 a b e) = srcIx c p a b e := by
  rw [← src_idx c p a b e, ← src_squeezed a b e]
  rfl

theorem kt_apply (c : Dev nD) (p : QH) (a : Fin 16) (b : Fin 64) (e : Fin 128) :
    kt m c p (ix3 a b e) = m ((c : Thread nD τ).loc main_arg2) (srcIx c p a b e) := by
  rw [← src_emb c p a b e]
  rfl
theorem vt_apply (c : Dev nD) (p : QH) (a : Fin 16) (b : Fin 64) (e : Fin 128) :
    vt m c p (ix3 a b e) = m ((c : Thread nD τ).loc main_arg3) (srcIx c p a b e) := by
  rw [← src_emb c p a b e]
  rfl

/-! ## The stages over the extended reals -/

/-- The scale, as the number its word denotes. -/
def scale : EReal := Ideal.ofBits .f32 0x3DB504F3#32

theorem pay1_apply (x : FVec Ideal S256x1024 .f32) (w : FVec Ideal S1024x1024 .f32) (i : Fin 256) (k : Fin 1024) :
    k0_pay1 x w (ix2 i k) = (∑ c : Fin 1024, x (ix2 i c) * w (ix2 c k)) * scale := by
  pointwise [k0_pay1]
  rfl

theorem pay64_apply (x : FVec Ideal S256x1024 .f32) (w : FVec Ideal S1024x1024 .f32) (i : Fin 256) (n : Fin 1024) :
    @Eq EReal (k0_pay64 (F := Ideal) x w (ix2 i n)) (∑ k : Fin 1024, x (ix2 i k) * w (ix2 k n)) := by
  pointwise [k0_pay64]

theorem pay69_apply (y : FVec Ideal S256x1024 .bf16) (z : Fin 1) (i : Fin 256) (n : Fin 1024) :
    @Eq EReal (k0_pay69 (F := Ideal) y (ix3 z i n)) (y (ix2 i n)) := by
  pointwise [k0_pay69]

theorem radd_ideal (a b : FVec Ideal S256x1024 .bf16) (i : S256x1024.Idx) : radd a b i = a i + b i := by
  pointwise [radd]

/-- The word of the mask's constant and of a maximum's start denotes −∞. -/
theorem bits_bot : Ideal.ofBits .f32 0xFF800000#32 = ⊥ := by
  have h1 : (0xFF800000#32 : BitVec 32).extractLsb' 31 1 = 1#1 := by decide
  have h2 : ((0xFF800000#32 : BitVec 32).extractLsb' 23 8).toNat = 255 := by decide
  have h3 : ((0xFF800000#32 : BitVec 32).extractLsb' 0 23).toNat = 0 := by decide
  simp [Ideal.ofBits, Ideal.ieee, h1, h2, h3]

/-- The word of the scale denotes a real number. -/
theorem scale_real : ∃ r : ℝ, scale = (r : EReal) := by
  have h2 : ((0x3DB504F3#32 : BitVec 32).extractLsb' 23 8).toNat = 123 := by decide
  unfold scale Ideal.ofBits Ideal.ieee
  simp only [h2]
  rw [if_neg (by decide), if_neg (by decide)]
  exact ⟨_, rfl⟩

/-- The scores of a tile's row. -/
def score (p : QH) (q : FVec Ideal S256x1024 .f32) (k3 : FVec Ideal S16x64x128 .f32) (r : Fin 64) (t : Fin 1024) : EReal :=
  ∑ e : Fin 128, q (ix2 ⟨64 * p.1.val + r.val, by have := p.1.isLt; omega⟩ ⟨128 * p.2.val + e.val, by have := p.2.isLt; omega⟩)
    * k3 (ix3 ⟨t.val / 64, by omega⟩ ⟨t.val % 64, by omega⟩ e)

theorem tile_apply (p : QH) (q : FVec Ideal S256x1024 .f32) (k3 v3 : FVec Ideal S16x64x128 .f32) (r : Fin 64) (l : Fin 128) :
    tile p q k3 v3 (ix2 r l) = ∑ t : Fin 1024,
      Ideal.div (Ideal.exp (score p q k3 r t - Finset.univ.fold max ⊥ (score p q k3 r)))
        (∑ u : Fin 1024, Ideal.exp (score p q k3 r u - Finset.univ.fold max ⊥ (score p q k3 r)))
      * v3 (ix3 ⟨t.val / 64, by omega⟩ ⟨t.val % 64, by omega⟩ l) := by
  pointwise [tile]
  rw [bits_bot]
  rfl

end Cert.Attn
-- ==== Proof.Softmax.lean ====
/-
# Softmax over the extended reals, with keys masked out

A masked score is −∞: it changes no maximum, its weight is zero, and so the attention over all keys is the attention
over the kept ones. All of it for real scores; the values may be anything.
-/
module

public import Idealize.ShloMosaic.PureOps.Ideal
public import Mathlib.Data.EReal.Inv
public import Mathlib.Algebra.BigOperators.Group.Finset.Basic

@[expose] public section

noncomputable section

namespace Cert.Attn

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is the real sum. -/
theorem coe_sum_real {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem IsReal.sum {ι : Type*} (S : Finset ι) {f : ι → EReal} (h : ∀ i, IsReal (f i)) : IsReal (∑ i ∈ S, f i) := by
  choose g hg using h
  exact ⟨∑ i ∈ S, g i, by rw [coe_sum_real]; exact Finset.sum_congr rfl fun i _ => hg i⟩

/-- A finite extended real is a real number. -/
theorem isReal_of_abs_lt {x : EReal} (h : max x (-x) < ⊤) : IsReal x := by
  induction x using EReal.rec with
  | bot => simp at h
  | coe r => exact ⟨r, rfl⟩
  | top => simp at h

/-- Scaling the queries scales the scores. -/
theorem scaled_dot {ι : Type*} [Fintype ι] {q k : ι → EReal} {c : EReal} (hq : ∀ e, IsReal (q e)) (hk : ∀ e, IsReal (k e))
    (hc : IsReal c) : ∑ e, q e * c * k e = (∑ e, q e * k e) * c := by
  choose q' hq using hq
  choose k' hk using hk
  obtain ⟨c', rfl⟩ := hc
  simp only [hq, hk, ← EReal.coe_mul, ← coe_sum_real]
  rw [Finset.sum_mul]
  congr 1
  exact Finset.sum_congr rfl fun e _ => by ring

/-! ## Masked keys -/

section Masked
variable {ι κ : Type*} [Fintype ι] [Fintype κ] [Nonempty κ]

/-- The largest score. -/
def top (s : ι → EReal) : EReal := Finset.univ.fold max ⊥ s

theorem top_eq_sup (s : ι → EReal) : top s = Finset.univ.sup s := rfl

/-- A key's weight before the division. -/
def wt (s : ι → EReal) (j : ι) : EReal := Ideal.exp (s j - top s)

variable {f : κ → ι} (hf : Function.Injective f) {s : ι → EReal} (hmask : ∀ j, j ∉ Set.range f → s j = ⊥)
  (hreal : ∀ t, IsReal (s (f t)))

include hmask in
theorem top_kept : top s = top fun t => s (f t) := by
  rw [top_eq_sup, top_eq_sup]
  apply le_antisymm
  · refine Finset.sup_le fun j _ => ?_
    by_cases hj : j ∈ Set.range f
    · obtain ⟨t, rfl⟩ := hj
      exact Finset.le_sup (f := fun t => s (f t)) (Finset.mem_univ t)
    · rw [hmask j hj]
      exact bot_le
  · exact Finset.sup_le fun t _ => Finset.le_sup (f := s) (Finset.mem_univ (f t))

include hmask in
theorem wt_masked {j : ι} (hj : j ∉ Set.range f) : wt s j = 0 := by
  unfold wt
  rw [hmask j hj, EReal.bot_sub]
  rfl

include hmask in
theorem wt_kept (t : κ) : wt s (f t) = wt (fun t => s (f t)) t := by
  unfold wt
  rw [top_kept hmask]

include hf hmask in
theorem sum_wt : ∑ j, wt s j = ∑ t, wt (fun t => s (f t)) t :=
  (Fintype.sum_of_injective f hf _ _ (fun _ hj => wt_masked hmask hj) fun t => (wt_kept hmask t).symm).symm

/-- The weights of real scores sum to a positive number. -/
theorem sum_wt_ne {a : κ → EReal} (ha : ∀ t, IsReal (a t)) : ∑ t, wt a t ≠ 0 := by
  obtain ⟨t₀, -, h₀⟩ := Finset.exists_mem_eq_sup Finset.univ Finset.univ_nonempty a
  choose b hb using ha
  have hw : ∀ t, wt a t = ((Real.exp (b t - b t₀) : ℝ) : EReal) := fun t => by
    unfold wt
    rw [top_eq_sup, h₀, hb t, hb t₀, ← EReal.coe_sub]
    rfl
  simp only [hw]
  rw [← coe_sum_real, Ne, EReal.coe_eq_zero]
  exact (Finset.sum_pos (fun t _ => Real.exp_pos _) Finset.univ_nonempty).ne'

include hf hmask hreal in
/-- The attention over all keys, the masked ones at −∞, is the attention over the kept keys. -/
theorem masked_attention (v : ι → EReal) :
    ∑ j, v j * Ideal.div (wt s j) (∑ u, wt s u)
      = ∑ t, Ideal.div (wt (fun t => s (f t)) t) (∑ u, wt (fun t => s (f t)) u) * v (f t) := by
  rw [sum_wt hf hmask]
  refine (Fintype.sum_of_injective f hf _ _ (fun j hj => ?_) fun t => ?_).symm
  · rw [wt_masked hmask hj]
    unfold Ideal.div
    rw [if_neg (sum_wt_ne hreal), zero_mul, mul_zero]
  · rw [wt_kept hmask, mul_comm]

end Masked

end Cert.Attn
-- ==== Proof.RefStages.lean ====
/-
# The reference in stages

The reference's result is one long expression of its five arguments. Here it is cut into named stages: the block-strided
mask, the masked scores, their largest per row, the weights, the context and the output projection.
-/
module

public import proofs.«01_k».proof.Proof.Gen.ReferenceIdeal.Run
public import Idealize.ShloMosaic.Lib.Pointwise
public import Idealize.ShloMosaic.Lib.Routing.OpsOrder

@[expose] public section

noncomputable section

namespace Cert.AttnRef

open Cert.ReferenceIdeal Cert.ReferenceIdeal.Gen Cert.ReferenceIdeal.Value
open Idealize.ShloMosaic
open Idealize.SL Idealize.SL.Sem

variable {F : FTy → Type} [FloatOps F]

/-! ## The mask -/

/-- The block of each position: its number divided by 64, rounded down. -/
def blockOf (s : Shape) (h : S_.BroadcastsInDim s (![] : Fin 0 → Fin s.rank)) (a : IVec s 32) : IVec s 32 :=
  select
    (andi (cmpi .ne (signi a) (broadcastInDim s ![] h (signi (id (constantI S_ 32 64#32)))))
      (cmpi .ne (Host.remsi a (broadcastInDim s ![] h (id (constantI S_ 32 64#32)))) (broadcastInDim s ![] h (constantI S_ 32 0#32))))
    (subi (Host.divsi a (broadcastInDim s ![] h (id (constantI S_ 32 64#32)))) (broadcastInDim s ![] h (constantI S_ 32 1#32)))
    (Host.divsi a (broadcastInDim s ![] h (id (constantI S_ 32 64#32))))

/-- The divisor of the residue: 4. -/
def four : IVec S_ 32 :=
  select (cmpi .eq (id (constantI S_ 32 4#32)) (constantI S_ 32 0#32)) (constantI S_ 32 1#32) (id (constantI S_ 32 4#32))

/-- The residue of a block modulo 4. -/
def residue (s : Shape) (h : S_.BroadcastsInDim s (![] : Fin 0 → Fin s.rank)) (b : IVec s 32) : IVec s 32 :=
  select
    (andi
      (cmpi .ne (cmpi .slt (Host.remsi b (broadcastInDim s ![] h four)) (broadcastInDim s ![] h (constantI S_ 32 0#32)))
        (broadcastInDim s ![] h (cmpi .slt four (constantI S_ 32 0#32))))
      (cmpi .ne (Host.remsi b (broadcastInDim s ![] h four)) (broadcastInDim s ![] h (constantI S_ 32 0#32))))
    (addi (Host.remsi b (broadcastInDim s ![] h four)) (broadcastInDim s ![] h four))
    (Host.remsi b (broadcastInDim s ![] h four))

def qblock : IVec S256x1 32 :=
  broadcastInDim S256x1 ![0] bcast_S256_S256x1_0 (blockOf S256 bcast_S_S256 (iotaInDim S256 32 0))

def kblock : IVec S1x4096 32 :=
  broadcastInDim S1x4096 ![1] bcast_S4096_S1x4096_1 (blockOf S4096 bcast_S_S4096 (iotaInDim S4096 32 0))

/-- Which keys a query sees. -/
def mask : IVec S256x4096 1 :=
  ori
    (cmpi .eq (broadcastInDim S256x4096 ![0, 1] bcast_S256x1_S256x4096_0_1 qblock)
      (broadcastInDim S256x4096 ![0, 1] bcast_S1x4096_S256x4096_0_1 kblock))
    (cmpi .eq (broadcastInDim S256x4096 ![0, 1] bcast_S1x4096_S256x4096_0_1 (residue S1x4096 bcast_S_S1x4096 kblock))
      (broadcastInDim S256x4096 ![0, 1] bcast_S256x1_S256x4096_0_1 (residue S256x1 bcast_S_S256x1 qblock)))

/-- Whether a query sees any key. -/
def rowKeep : IVec S256 1 := Host.reduce IntOp.ori mask (constantI S_ 1 0#1) reducesTo_S256x4096_S256_d1 h_S_

/-! ## The attention -/

section
variable (x : FVec F S256x1024 .f32) (wq : FVec F S1024x8192 .f32) (k v : FVec F S16x4x64x64x128 .f32) (wo : FVec F S8192x1024 .f32)

/-- The queries, by head. -/
def queries : FVec F S1x256x64x128 .f32 :=
  shapeCast _ (Host.dotGeneral dot_S1x256x1024_S1024x8192_S1x256x8192_2_0_01_1_n_n none
    (shapeCast _ x shapeCasts_S256x1024_S1x256x1024) wq) shapeCasts_S1x256x8192_S1x256x64x128

/-- The scaled scores of every key. -/
def rawScores (q : FVec F S1x256x64x128 .f32) : FVec F S1x64x256x4096 .f32 :=
  mulf (Host.dotGeneral dot_S1x256x64x128_S1x4096x64x128_S1x64x256x4096_3_3_1_1_02_02 none q
      (shapeCast _ k shapeCasts_S16x4x64x64x128_S1x4096x64x128))
    (broadcastInDim S1x64x256x4096 ![] bcast_S_S1x64x256x4096 (constant S_ .f32 0x3DB504F3#32))

/-- The scores, −∞ where the mask hides the key. -/
def maskedScores (s : FVec F S1x64x256x4096 .f32) : FVec F S1x64x256x4096 .f32 :=
  select (broadcastInDim S1x64x256x4096 ![0, 1, 2, 3] bcast_S1x1x256x4096_S1x64x256x4096_0_1_2_3
      (broadcastInDim S1x1x256x4096 ![2, 3] bcast_S256x4096_S1x1x256x4096_2_3 mask))
    s (broadcastInDim S1x64x256x4096 ![] bcast_S_S1x64x256x4096 (id (constant S_ .f32 0xFF800000#32)))

/-- Each score's exponential, its row's largest subtracted. -/
def expScores (s : FVec F S1x64x256x4096 .f32) : FVec F S1x64x256x4096 .f32 :=
  Host.exp (subf s (broadcastInDim S1x64x256x4096 ![0, 1, 2, 3] bcast_S1x64x256x1_S1x64x256x4096_0_1_2_3
    (broadcastInDim S1x64x256x1 ![0, 1, 2] bcast_S1x64x256_S1x64x256x1_0_1_2
      (Host.reduce FloatOps.maximumf s (constant S_ .f32 0xFF800000#32) reducesTo_S1x64x256x4096_S1x64x256_d3 h_S_))))

/-- A row's sum of exponentials, 1 where no key is seen. -/
def rowSum (w : FVec F S1x64x256x4096 .f32) : FVec F S1x64x256x1 .f32 :=
  select (broadcastInDim S1x64x256x1 ![0, 1, 2, 3] bcast_S1x1x256x1_S1x64x256x1_0_1_2_3
      (broadcastInDim S1x1x256x1 ![2] bcast_S256_S1x1x256x1_2 rowKeep))
    (broadcastInDim S1x64x256x1 ![0, 1, 2] bcast_S1x64x256_S1x64x256x1_0_1_2
      (Host.reduceAdd w (constant S_ .f32 0x00000000#32) reducesTo_S1x64x256x4096_S1x64x256_d3 h_S_))
    (broadcastInDim S1x64x256x1 ![] bcast_S_S1x64x256x1 (id (constant S_ .f32 0x3F800000#32)))

/-- The weights. -/
def weights (w : FVec F S1x64x256x4096 .f32) : FVec F S1x64x256x4096 .f32 :=
  select (broadcastInDim S1x64x256x4096 ![0, 1, 2, 3] bcast_S1x1x256x1_S1x64x256x4096_0_1_2_3
      (broadcastInDim S1x1x256x1 ![2] bcast_S256_S1x1x256x1_2 rowKeep))
    (Host.divf w (broadcastInDim S1x64x256x4096 ![0, 1, 2, 3] bcast_S1x64x256x1_S1x64x256x4096_0_1_2_3 (rowSum w)))
    (broadcastInDim S1x64x256x4096 ![] bcast_S_S1x64x256x4096 (id (constant S_ .f32 0x00000000#32)))

/-- The weighted values, the heads of a row next to each other. -/
def context (p : FVec F S1x64x256x4096 .f32) : FVec F S1x256x8192 .f32 :=
  shapeCast _ (transpose S1x256x64x128 [0, 3, 1, 2]
    (Host.dotGeneral dot_S1x4096x64x128_S1x64x256x4096_S1x64x128x256_1_3_3_2_02_01 none
      (shapeCast _ v shapeCasts_S16x4x64x64x128_S1x4096x64x128) p)
    transposes_S1x64x128x256_S1x256x64x128_0_3_1_2) shapeCasts_S1x256x64x128_S1x256x8192

/-- The output projection. -/
def project (c : FVec F S1x256x8192 .f32) : FVec F S1x256x1024 .f32 :=
  Host.dotGeneral dot_S1x256x8192_S8192x1024_S1x256x1024_2_0_01_1_n_n none c wo

/-- The whole reference. -/
def whole : FVec F S1x256x1024 .f32 :=
  project wo (context v (weights (expScores (maskedScores (rawScores k (queries x wq))))))

end

set_option maxRecDepth 40000 in
/-- The reference's result is the stages, one after the other. -/
theorem res_eq (m : (ℓ : Loc nD τ sig) → Buf (Elt F) ℓ) (c : Dev nD) :
    res_main_v42 m c = whole (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The mask at an index -/

theorem blockOf_q : ∀ i : Fin 256, blockOf S256 bcast_S_S256 (iotaInDim S256 32 0) (ix1 i) = BitVec.ofNat 32 (i.val / 64) := by
  intro i
  pointwise [blockOf]
  revert i
  decide +kernel

theorem blockOf_k : ∀ j : Fin 4096, blockOf S4096 bcast_S_S4096 (iotaInDim S4096 32 0) (ix1 j) = BitVec.ofNat 32 (j.val / 64) := by
  intro j
  pointwise [blockOf]
  revert j
  decide +kernel

theorem residue_q (i : Fin 256) : residue S256x1 bcast_S_S256x1 qblock (ix2 i 0) = BitVec.ofNat 32 (i.val / 64 % 4) := by
  have h : qblock (ix2 i 0) = BitVec.ofNat 32 (i.val / 64) := by
    rw [← blockOf_q i]
    rfl
  pointwise [residue, four]
  rw [h]
  generalize hb : i.val / 64 = b
  replace hb : b < 64 := by have := i.isLt; omega
  revert b
  decide +kernel

theorem residue_k (j : Fin 4096) : residue S1x4096 bcast_S_S1x4096 kblock (ix2 0 j) = BitVec.ofNat 32 (j.val / 64 % 4) := by
  have h : kblock (ix2 0 j) = BitVec.ofNat 32 (j.val / 64) := by
    rw [← blockOf_k j]
    rfl
  pointwise [residue, four]
  rw [h]
  generalize hb : j.val / 64 = b
  replace hb : b < 64 := by have := j.isLt; omega
  revert b
  decide +kernel

theorem mask_apply (i : Fin 256) (j : Fin 4096) : mask (ix2 i j) = 1#1 ↔ j.val / 64 % 4 = i.val / 64 := by
  have h : mask (ix2 i j) = IntOp.ori (IntOp.cmpi .eq (BitVec.ofNat 32 (i.val / 64)) (BitVec.ofNat 32 (j.val / 64)))
      (IntOp.cmpi .eq (BitVec.ofNat 32 (j.val / 64 % 4)) (BitVec.ofNat 32 (i.val / 64 % 4))) := by
    rw [← blockOf_q i, ← blockOf_k j, ← residue_q i, ← residue_k j]
    rfl
  rw [h]
  generalize hb : i.val / 64 = b
  generalize hc : j.val / 64 = c
  replace hb : b < 4 := by have := i.isLt; omega
  replace hc : c < 64 := by have := j.isLt; omega
  have key : ∀ b < 4, ∀ c < 64, (IntOp.ori (IntOp.cmpi .eq (BitVec.ofNat 32 b) (BitVec.ofNat 32 c))
      (IntOp.cmpi .eq (BitVec.ofNat 32 (c % 4)) (BitVec.ofNat 32 (b % 4))) = 1#1 ↔ c % 4 = b) := by decide +kernel
  exact key b hb c hc

/-- Every query sees a key: its own. -/
theorem rowKeep_apply (i : Fin 256) : rowKeep (ix1 i) = 1#1 := by
  have h : rowKeep (ix1 i) = Finset.fold IntOp.ori (0#1) (fun j : Fin 4096 => mask (ix2 i j)) Finset.univ := by
    pointwise [rowKeep]
  rw [h, Routing.fold_ori]
  exact ⟨⟨i.val, by have := i.isLt; omega⟩, Finset.mem_univ _, (mask_apply i _).2 (by have := i.isLt; show i.val / 64 % 4 = _; omega)⟩

/-! ## The stages at an index, over the extended reals -/

section
variable (x : FVec Ideal S256x1024 .f32) (wq : FVec Ideal S1024x8192 .f32) (k v : FVec Ideal S16x4x64x64x128 .f32) (wo : FVec Ideal S8192x1024 .f32)

theorem queries_apply (i : Fin 256) (h : Fin 64) (e : Fin 128) :
    @Eq EReal (queries x wq (ix4 0 i h e)) (∑ c : Fin 1024, x (ix2 i c) * wq (ix2 c ⟨h.val * 128 + e.val, by omega⟩)) := by
  pointwise [queries]

theorem rawScores_apply (q : FVec Ideal S1x256x64x128 .f32) (h : Fin 64) (i : Fin 256) (j : Fin 4096) :
    @Eq EReal (rawScores k q (ix4 0 h i j)) ((∑ e : Fin 128, q (ix4 0 i h e)
      * k (ix5 ⟨j.val / 256, by omega⟩ ⟨j.val / 64 % 4, by omega⟩ ⟨j.val % 64, by omega⟩ h e)) * Ideal.ofBits .f32 0x3DB504F3#32) := by
  pointwise [rawScores]

theorem maskedScores_apply (s : FVec Ideal S1x64x256x4096 .f32) (h : Fin 64) (i : Fin 256) (j : Fin 4096) :
    @Eq EReal (maskedScores s (ix4 0 h i j)) (if j.val / 64 % 4 = i.val / 64 then s (ix4 0 h i j) else Ideal.ofBits .f32 0xFF800000#32) := by
  pointwise [maskedScores]
  by_cases hm : j.val / 64 % 4 = i.val / 64
  · rw [(mask_apply i j).2 hm, if_pos hm]
    rfl
  · rw [(BitVec.eq_zero_or_eq_one (mask (ix2 i j))).resolve_right fun e => hm ((mask_apply i j).1 e), if_neg hm]
    rfl

theorem expScores_apply (s : FVec Ideal S1x64x256x4096 .f32) (h : Fin 64) (i : Fin 256) (j : Fin 4096) :
    @Eq EReal (expScores s (ix4 0 h i j)) (Ideal.exp (s (ix4 0 h i j) - Finset.univ.fold max (Ideal.ofBits .f32 0xFF800000#32) fun u : Fin 4096 => s (ix4 0 h i u))) := by
  pointwise [expScores]

theorem rowSum_apply (w : FVec Ideal S1x64x256x4096 .f32) (h : Fin 64) (i : Fin 256) :
    @Eq EReal (rowSum w (ix4 0 h i 0)) (∑ u : Fin 4096, w (ix4 0 h i u)) := by
  pointwise [rowSum]
  rw [rowKeep_apply]
  exact if_pos rfl

theorem weights_apply (w : FVec Ideal S1x64x256x4096 .f32) (h : Fin 64) (i : Fin 256) (j : Fin 4096) :
    @Eq EReal (weights w (ix4 0 h i j)) (Ideal.div (w (ix4 0 h i j)) (∑ u : Fin 4096, w (ix4 0 h i u))) := by
  rw [← rowSum_apply]
  pointwise [weights]
  rw [rowKeep_apply]
  exact if_pos rfl

theorem context_apply (p : FVec Ideal S1x64x256x4096 .f32) (i : Fin 256) (n : Fin 8192) :
    @Eq EReal (context v p (ix3 0 i n)) (∑ j : Fin 4096,
      v (ix5 ⟨j.val / 256, by omega⟩ ⟨j.val / 64 % 4, by omega⟩ ⟨j.val % 64, by omega⟩ ⟨n.val / 128, by omega⟩ ⟨n.val % 128, by omega⟩)
        * p (ix4 0 ⟨n.val / 128, by omega⟩ i j)) := by
  pointwise [context]

theorem project_apply (c : FVec Ideal S1x256x8192 .f32) (i : Fin 256) (n : Fin 1024) :
    @Eq EReal (project wo c (ix3 0 i n)) (∑ k : Fin 8192, c (ix3 0 i k) * wo (ix2 k n)) := by
  pointwise [project]

end

end Cert.AttnRef
-- ==== Proof.Values.lean ====
/-
# The kernel's context and result, in the reference's terms

A device's context is the reference's context at the device's heads, and the result at each index is the sum over the
devices of their shares of the output projection: the projection of the whole context.
-/
module

public import proofs.«01_k».proof.Proof.Reads
public import proofs.«01_k».proof.Proof.Softmax
public import proofs.«01_k».proof.Proof.RefStages

@[expose] public section

noncomputable section

namespace Cert.Attn

open Cert.KernelIdeal Cert.KernelIdeal.Gen
open Idealize.ShloMosaic
open Idealize.ShloMosaic.TcCoe
open Idealize.SL Idealize.SL.Sem

variable (m : (ℓ : Loc nD τ sig) → Buf (Elt Ideal) ℓ)

/-! ## The kept keys of a query block -/

/-- The place, among all keys, of the `t`-th key that query block `b` sees. -/
def keyAt (b : Fin 4) (t : Fin 1024) : Fin 4096 :=
  ⟨t.val / 64 * 256 + b.val * 64 + t.val % 64, by have := b.isLt; have := t.isLt; omega⟩

theorem keyAt_injective (b : Fin 4) : Function.Injective (keyAt b) := fun t u h => by
  have h' : t.val / 64 * 256 + b.val * 64 + t.val % 64 = u.val / 64 * 256 + b.val * 64 + u.val % 64 := congrArg Fin.val h
  apply Fin.ext
  omega

theorem keyAt_seen (b : Fin 4) (t : Fin 1024) : (keyAt b t).val / 64 % 4 = b.val := by
  have := b.isLt
  show (t.val / 64 * 256 + b.val * 64 + t.val % 64) / 64 % 4 = b.val
  omega

theorem seen_keyAt (b : Fin 4) (j : Fin 4096) (h : j.val / 64 % 4 = b.val) : j ∈ Set.range (keyAt b) :=
  ⟨⟨j.val / 256 * 64 + j.val % 64, by have := j.isLt; omega⟩, Fin.ext (by
    have := j.isLt
    show (j.val / 256 * 64 + j.val % 64) / 64 * 256 + b.val * 64 + (j.val / 256 * 64 + j.val % 64) % 64 = j.val
    omega)⟩

/-! ## The butterfly's sum -/

/-- A device and its partners' partners are all the devices. -/
theorem reached (c : Fin 8) :
    (List.finRange 8).Perm [c, pr 0 c, pr 1 c, pr 0 (pr 1 c), pr 2 c, pr 0 (pr 2 c), pr 1 (pr 2 c), pr 0 (pr 1 (pr 2 c))] := by
  revert c
  decide

/-- After the three rounds every device's buffer is the sum of the eight shares. -/
theorem acc_three (c : Dev nD) (i : S256x1024.Idx) : @Eq EReal (acc m 3 c i) (∑ d : Fin 8, @id EReal (part m d i)) := by
  have h : ∀ (k : ℕ) (c : Dev nD), @Eq EReal (acc m (k + 1) c i) (@id EReal (acc m k c i) + @id EReal (acc m k (pr (Fin.ofNat 3 k) c) i)) :=
    fun k c => radd_ideal _ _ i
  have h0 : ∀ c : Dev nD, acc m 0 c = part m c := fun _ => rfl
  rw [Fin.sum_univ_def, ((reached c).map _).sum_eq]
  rw [h 2, h 1 c, h 1, h 0 c, h 0, h 0, h 0]
  simp only [h0, id, List.map_cons, List.map_nil, List.sum_cons, List.sum_nil, Fin.isValue,
    show Fin.ofNat 3 0 = 0 from rfl, show Fin.ofNat 3 1 = 1 from rfl, show Fin.ofNat 3 2 = 2 from rfl]
  rw [add_zero]
  ac_rfl

/-- The kernel's result at an index. -/
theorem outv_apply (i : Fin 256) (n : Fin 1024) :
    @Eq EReal (outv m (ix3 0 i n)) (∑ d : Fin 8, ∑ k : Fin 1024, @id EReal (cx m d (ix2 i k)) * @id EReal (wov m d (ix2 k n))) := by
  have h1 : @Eq EReal (outv m (ix3 0 i n)) (red m (ix2 i n)) := pay69_apply (red m) 0 i n
  rw [h1]
  refine (acc_three m _ (ix2 i n)).trans (Finset.sum_congr rfl fun d _ => ?_)
  exact pay64_apply (cx m d) (wov m d) i n

/-- A sum over the columns of all devices, device by device. -/
theorem sum_by_device (f : Fin 8192 → EReal) :
    ∑ j : Fin 8192, f j = ∑ d : Fin 8, ∑ k : Fin 1024, f ⟨1024 * d.val + k.val, by have := d.isLt; have := k.isLt; omega⟩ := by
  rw [← (finProdFinEquiv (m := 8) (n := 1024)).sum_comp f, Fintype.sum_prod_type]
  exact Finset.sum_congr rfl fun d _ => Finset.sum_congr rfl fun k _ => congrArg f (Fin.ext (Nat.add_comm _ _))

/-! ## The context -/

section
variable (x : FVec Ideal S256x1024 .f32) (wq : FVec Ideal Cert.ReferenceIdeal.S1024x8192 .f32)
  (K V : FVec Ideal S16x4x64x64x128 .f32) (wo : FVec Ideal Cert.ReferenceIdeal.S8192x1024 .f32)

/-- The reference's masked scores. -/
abbrev refScores : FVec Ideal Cert.ReferenceIdeal.S1x64x256x4096 .f32 :=
  AttnRef.maskedScores (AttnRef.rawScores K (AttnRef.queries x wq))

/-- The reference's context, its softmax written with the weights of a row. -/
theorem ref_context (i : Fin 256) (n : Fin 8192) (s : Fin 4096 → EReal)
    (hs : ∀ j, s j = refScores x wq K (ix4 0 ⟨n.val / 128, by omega⟩ i j)) :
    @Eq EReal (AttnRef.context V (AttnRef.weights (AttnRef.expScores (refScores x wq K))) (ix3 0 i n))
      (∑ j : Fin 4096,
        @id EReal (V (ix5 ⟨j.val / 256, by omega⟩ ⟨j.val / 64 % 4, by omega⟩ ⟨j.val % 64, by omega⟩ ⟨n.val / 128, by omega⟩ ⟨n.val % 128, by omega⟩))
          * Ideal.div (wt s j) (∑ u, wt s u)) := by
  have hw : ∀ j : Fin 4096, @Eq EReal (AttnRef.expScores (refScores x wq K) (ix4 0 ⟨n.val / 128, by omega⟩ i j)) (wt s j) := fun j => by
    rw [AttnRef.expScores_apply, bits_bot]
    obtain rfl : s = fun j => refScores x wq K (ix4 0 ⟨n.val / 128, by omega⟩ i j) := funext hs
    rfl
  rw [AttnRef.context_apply]
  refine Finset.sum_congr rfl fun j _ => ?_
  rw [AttnRef.weights_apply, hw j]
  simp only [hw]
  rfl

variable {x wq K V wo} {m}

/-- The reference's masked score of a key that the query's block sees. -/
theorem refScores_seen (h : Fin 64) (i : Fin 256) (j : Fin 4096) (hj : j.val / 64 % 4 = i.val / 64) :
    @Eq EReal (refScores x wq K (ix4 0 h i j))
      ((∑ e : Fin 128, (∑ c : Fin 1024, @id EReal (x (ix2 i c)) * @id EReal (wq (ix2 c ⟨h.val * 128 + e.val, by omega⟩)))
        * @id EReal (K (ix5 ⟨j.val / 256, by omega⟩ ⟨j.val / 64 % 4, by omega⟩ ⟨j.val % 64, by omega⟩ h e))) * scale) := by
  unfold refScores
  rw [AttnRef.maskedScores_apply, if_pos hj, AttnRef.rawScores_apply]
  congr 1
  refine Finset.sum_congr rfl fun e _ => ?_
  congr 1
  exact AttnRef.queries_apply x wq i h e

theorem refScores_hidden (h : Fin 64) (i : Fin 256) (j : Fin 4096) (hj : j.val / 64 % 4 ≠ i.val / 64) :
    @Eq EReal (refScores x wq K (ix4 0 h i j)) ⊥ := by
  unfold refScores
  rw [AttnRef.maskedScores_apply, if_neg hj]
  exact bits_bot

/-- A query of the kernel: the reference's, scaled. -/
theorem qv_eq {d : Fin 8} (hx : xv m d = x)
    (hwq : ∀ (c k : Fin 1024), wqv m d (ix2 c k) = wq (ix2 c ⟨1024 * d.val + k.val, by have := d.isLt; have := k.isLt; omega⟩))
    (i : Fin 256) (k : Fin 1024) :
    @Eq EReal (qv m d (ix2 i k)) ((∑ c : Fin 1024, @id EReal (x (ix2 i c))
      * @id EReal (wq (ix2 c ⟨1024 * d.val + k.val, by have := d.isLt; have := k.isLt; omega⟩))) * scale) := by
  refine (pay1_apply (xv m d) (wqv m d) i k).trans ?_
  congr 1
  refine Finset.sum_congr rfl fun c _ => ?_
  rw [hx, hwq c k]
  rfl

/-- A score of the kernel is the reference's score of that key. -/
theorem score_eq {d : Fin 8} (hx : xv m d = x)
    (hwq : ∀ (c k : Fin 1024), wqv m d (ix2 c k) = wq (ix2 c ⟨1024 * d.val + k.val, by have := d.isLt; have := k.isLt; omega⟩))
    (hK : m ((d : Thread nD τ).loc main_arg2) = K)
    (rx : ∀ j, IsReal (x j)) (rw' : ∀ j, IsReal (wq j)) (rK : ∀ j, IsReal (K j)) (i : Fin 256) (h : Fin 8) (t : Fin 1024) :
    score (⟨i.val / 64, by omega⟩, h) (qv m d) (kt m d (⟨i.val / 64, by omega⟩, h)) ⟨i.val % 64, by omega⟩ t
      = refScores x wq K (ix4 0 ⟨8 * d.val + h.val, by have := d.isLt; omega⟩ i (keyAt ⟨i.val / 64, by omega⟩ t)) := by
  rw [refScores_seen _ i _ (keyAt_seen _ t)]
  refine Eq.trans (Finset.sum_congr rfl fun e _ => ?_)
    (scaled_dot (fun e => IsReal.sum _ fun c => (rx _).mul (rw' _)) (fun e => rK _) scale_real)
  rw [show (⟨64 * (i.val / 64) + i.val % 64, by omega⟩ : Fin 256) = i from Fin.ext (Nat.div_add_mod i.val 64)]
  rw [qv_eq hx hwq, kt_apply, hK]
  have e1 : (⟨1024 * d.val + (128 * h.val + e.val), by have := d.isLt; omega⟩ : Fin 8192)
      = ⟨(8 * d.val + h.val) * 128 + e.val, by have := d.isLt; omega⟩ := Fin.ext (by show 1024 * d.val + (128 * h.val + e.val) = (8 * d.val + h.val) * 128 + e.val; omega)
  have e2 : srcIx d (⟨i.val / 64, by omega⟩, h) ⟨t.val / 64, by omega⟩ ⟨t.val % 64, by omega⟩ e
      = ix5 ⟨(keyAt ⟨i.val / 64, by omega⟩ t).val / 256, by omega⟩ ⟨(keyAt ⟨i.val / 64, by omega⟩ t).val / 64 % 4, by omega⟩
        ⟨(keyAt ⟨i.val / 64, by omega⟩ t).val % 64, by omega⟩ ⟨8 * d.val + h.val, by have := d.isLt; omega⟩ e := by
    have hk : (keyAt ⟨i.val / 64, by omega⟩ t).val = t.val / 64 * 256 + i.val / 64 * 64 + t.val % 64 := rfl
    unfold srcIx
    congr 1 <;> apply Fin.ext
    · show t.val / 64 = (keyAt ⟨i.val / 64, by omega⟩ t).val / 256
      omega
    · show i.val / 64 = (keyAt ⟨i.val / 64, by omega⟩ t).val / 64 % 4
      omega
    · show t.val % 64 = (keyAt ⟨i.val / 64, by omega⟩ t).val % 64
      omega
  simp only [e1, e2]
  rfl

/-- The context of a device is the reference's context at the device's heads. -/
theorem cx_eq {d : Fin 8} (hx : xv m d = x)
    (hwq : ∀ (c k : Fin 1024), wqv m d (ix2 c k) = wq (ix2 c ⟨1024 * d.val + k.val, by have := d.isLt; have := k.isLt; omega⟩))
    (hK : m ((d : Thread nD τ).loc main_arg2) = K) (hV : m ((d : Thread nD τ).loc main_arg3) = V)
    (rx : ∀ j, IsReal (x j)) (rw' : ∀ j, IsReal (wq j)) (rK : ∀ j, IsReal (K j)) (i : Fin 256) (k : Fin 1024) :
    @Eq EReal (cx m d (ix2 i k)) (AttnRef.context V (AttnRef.weights (AttnRef.expScores (refScores x wq K)))
      (ix3 0 i ⟨1024 * d.val + k.val, by have := d.isLt; have := k.isLt; omega⟩)) := by
  have hd := d.isLt
  have hk := k.isLt
  set n : Fin 8192 := ⟨1024 * d.val + k.val, by omega⟩ with hn
  set b : Fin 4 := ⟨i.val / 64, by omega⟩ with hb
  set h : Fin 8 := ⟨k.val / 128, by omega⟩ with hh
  have hH : (⟨n.val / 128, by omega⟩ : Fin 64) = ⟨8 * d.val + h.val, by have := h.isLt; omega⟩ :=
    Fin.ext (by show (1024 * d.val + k.val) / 128 = 8 * d.val + k.val / 128; omega)
  have hl : (⟨n.val % 128, by omega⟩ : Fin 128) = ⟨k.val % 128, by omega⟩ :=
    Fin.ext (by show (1024 * d.val + k.val) % 128 = k.val % 128; omega)
  set s : Fin 4096 → EReal := fun j => refScores x wq K (ix4 0 ⟨n.val / 128, by omega⟩ i j) with hs
  have hscore : (score (b, h) (qv m d) (kt m d (b, h)) ⟨i.val % 64, by omega⟩) = fun t => s (keyAt b t) := funext fun t => by
    rw [hs]
    show _ = refScores x wq K (ix4 0 ⟨n.val / 128, by omega⟩ i (keyAt b t))
    rw [hH]
    exact score_eq hx hwq hK rx rw' rK i h t
  rw [ref_context x wq K V i n s fun _ => rfl]
  rw [masked_attention (f := keyAt b) (keyAt_injective b) (s := s)
    (fun j hj => refScores_hidden _ _ _ fun e => hj (seen_keyAt b j e))
    (fun t => by
      rw [hs]
      show IsReal (refScores x wq K (ix4 0 ⟨n.val / 128, by omega⟩ i (keyAt b t)))
      rw [refScores_seen _ _ _ (keyAt_seen b t)]
      exact (IsReal.sum _ fun e => (IsReal.sum _ fun c => (rx _).mul (rw' _)).mul (rK _)).mul scale_real)]
  refine (tile_apply (b, h) (qv m d) (kt m d (b, h)) (vt m d (b, h)) ⟨i.val % 64, by omega⟩ ⟨k.val % 128, by omega⟩).trans ?_
  rw [hscore]
  refine Finset.sum_congr rfl fun t _ => ?_
  congr 1
  rw [vt_apply, hV, hH, hl]
  have hkey : (keyAt b t).val = t.val / 64 * 256 + b.val * 64 + t.val % 64 := rfl
  have hbl := b.isLt
  unfold srcIx
  congr 2 <;> apply Fin.ext
  · show t.val / 64 = (keyAt b t).val / 256
    omega
  · show b.val = (keyAt b t).val / 64 % 4
    omega
  · show t.val % 64 = (keyAt b t).val % 64
    omega

/-- The kernel's result is the reference's, for blocks cut from its arguments, the queries' and the keys' real. -/
theorem outv_eq (hx : ∀ d : Fin 8, xv m d = x)
    (hwq : ∀ (d : Fin 8) (c k : Fin 1024), wqv m d (ix2 c k) = wq (ix2 c ⟨1024 * d.val + k.val, by have := d.isLt; have := k.isLt; omega⟩))
    (hK : ∀ d : Fin 8, m ((d : Thread nD τ).loc main_arg2) = K) (hV : ∀ d : Fin 8, m ((d : Thread nD τ).loc main_arg3) = V)
    (hwo : ∀ (d : Fin 8) (k n : Fin 1024), wov m d (ix2 k n) = wo (ix2 ⟨1024 * d.val + k.val, by have := d.isLt; have := k.isLt; omega⟩ n))
    (rx : ∀ j, IsReal (x j)) (rw' : ∀ j, IsReal (wq j)) (rK : ∀ j, IsReal (K j)) :
    outv m = AttnRef.whole (F := Ideal) x wq K V wo := by
  funext j
  obtain ⟨i, n, rfl⟩ : ∃ (i : Fin 256) (n : Fin 1024), j = ix3 0 i n :=
    ⟨j 1, j 2, by
      have h0 : j 0 = (0 : Fin 1) := Subsingleton.elim (α := Fin 1) _ _
      exact (eq_ix3 j).trans (by rw [h0])⟩
  refine (outv_apply m i n).trans ?_
  refine Eq.trans ?_ (AttnRef.project_apply wo _ i n).symm
  rw [sum_by_device]
  refine Finset.sum_congr rfl fun d _ => Finset.sum_congr rfl fun k _ => ?_
  rw [hwo d k n, cx_eq (hx d) (hwq d) (hK d) (hV d) rx rw' rK i k]
  rfl

end

end Cert.Attn
-- ==== Proof.Algebraic.lean ====
/-
# The value claim

Over the extended reals every device's result is the whole result of the reference, where the input rows, the query
weights and the keys are finite. The values and the output weights may be anything.
-/
module

public import proofs.«01_k».proof.Proof.Values
public import proofs.«01_k».proof.Proof.Gen.Pre_finite_KernelIdeal
public import Idealize.ShloMosaic.Lib.Layout

@[expose] public section

noncomputable section

namespace Cert.Attn

open Cert.KernelIdeal Cert.KernelIdeal.Gen
open Idealize.ShloMosaic
open Idealize.ShloMosaic.TcCoe
open Idealize.SL Idealize.SL.Sem

/-- The word of the precondition's bound denotes +∞. -/
theorem bits_top : Ideal.ofBits .f32 0x7F800000#32 = ⊤ := by
  have h1 : (0x7F800000#32 : BitVec 32).extractLsb' 31 1 = 0#1 := by decide
  have h2 : ((0x7F800000#32 : BitVec 32).extractLsb' 23 8).toNat = 255 := by decide
  have h3 : ((0x7F800000#32 : BitVec 32).extractLsb' 0 23).toNat = 0 := by decide
  simp [Ideal.ofBits, Ideal.ieee, h1, h2, h3]

/-- An element that the precondition's comparison accepts is a real number. -/
theorem isReal_of_accepted {S : Shape} {a : FVec Ideal S .f32} {b : FVec Ideal S .f32} (hb : ∀ j, b j = Ideal.ofBits .f32 0x7F800000#32)
    (h : cmpf .olt (Host.absf a) b = fun _ => 1#1) (j : S.Idx) : IsReal (a j) := by
  have hj : BitVec.ofBool (decide (max (a j) (-(a j)) < b j)) = 1#1 := congrFun h j
  rw [hb j, bits_top] at hj
  apply isReal_of_abs_lt
  by_contra hn
  rw [decide_eq_false hn] at hj
  exact absurd hj (by decide)

attribute [local instance] Cert.Pre_finite_KernelIdeal.Gen.facts in
/-- What the precondition says of one device's blocks. -/
theorem reals_of_pre {m : (ℓ : Loc nD τ sig) → Buf (Elt Ideal) ℓ}
    (h : Cert.Pre_KernelIdeal_finite_KernelIdeal (hPre_finite_KernelIdeal := Cert.Pre_finite_KernelIdeal.Gen.facts) m) (c : Dev nD) :
    (∀ j, IsReal (m ((c : Thread nD τ).loc main_arg0) j)) ∧ (∀ j, IsReal (m ((c : Thread nD τ).loc main_arg1) j))
      ∧ ∀ j, IsReal (m ((c : Thread nD τ).loc main_arg2) j) :=
  ⟨isReal_of_accepted (fun _ => rfl) (h c).1, isReal_of_accepted (fun _ => rfl) (h c).2.1, isReal_of_accepted (fun _ => rfl) (h c).2.2⟩

/-- The value claim. -/
theorem algebraic : Cert.algebraic_KernelIdeal_ReferenceIdeal_pre_finite_KernelIdeal
    (hPre_finite_KernelIdeal := Cert.Pre_finite_KernelIdeal.Gen.facts) := by
  intro m g m' g' hpre hargs
  have hreal := reals_of_pre hpre
  have hwq : ∀ (d : Fin 8) (c k : Fin 1024), wqv m d (ix2 c k)
      = m' (((0 : Dev Cert.ReferenceIdeal.nD) : Thread Cert.ReferenceIdeal.nD Cert.ReferenceIdeal.τ).loc Cert.ReferenceIdeal.main_arg1)
        (ix2 c ⟨1024 * d.val + k.val, by have := d.isLt; have := k.isLt; omega⟩) := fun d c k => by
    rw [wqv_eq, (hargs d).2.1, Layout.block_apply]
    refine congrArg _ (funext fun a => Fin.ext ?_)
    fin_cases a
    · rfl
    · show d.val * 1024 + k.val = 1024 * d.val + k.val
      omega
  have hwo : ∀ (d : Fin 8) (k n : Fin 1024), wov m d (ix2 k n)
      = m' (((0 : Dev Cert.ReferenceIdeal.nD) : Thread Cert.ReferenceIdeal.nD Cert.ReferenceIdeal.τ).loc Cert.ReferenceIdeal.main_arg4)
        (ix2 ⟨1024 * d.val + k.val, by have := d.isLt; have := k.isLt; omega⟩ n) := fun d k n => by
    rw [wov_eq, (hargs d).2.2.2.2, Layout.block_apply]
    refine congrArg _ (funext fun a => Fin.ext ?_)
    fin_cases a
    · show d.val * 1024 + k.val = 1024 * d.val + k.val
      omega
    · rfl
  have rwq : ∀ j, IsReal (m' (((0 : Dev Cert.ReferenceIdeal.nD) : Thread Cert.ReferenceIdeal.nD Cert.ReferenceIdeal.τ).loc Cert.ReferenceIdeal.main_arg1) j) := fun j => by
    obtain ⟨c, n, rfl⟩ : ∃ (c : Fin 1024) (n : Fin 8192), j = ix2 c n := ⟨j 0, j 1, eq_ix2 j⟩
    have hn := n.isLt
    have h := hwq ⟨n.val / 1024, by omega⟩ c ⟨n.val % 1024, by omega⟩
    have e : (⟨1024 * (n.val / 1024) + n.val % 1024, by omega⟩ : Fin 8192) = n := Fin.ext (Nat.div_add_mod n.val 1024)
    simp only [e] at h
    rw [← h, wqv_eq]
    exact (hreal _).2.1 _
  have key := outv_eq (m := m) (fun d => (xv_eq m d).trans (hargs d).1) hwq (fun d => (hargs d).2.2.1) (fun d => (hargs d).2.2.2.1) hwo
    (fun j => by rw [← (hargs (0 : Fin 8)).1]; exact (hreal _).1 j) rwq
    (fun j => by rw [← (hargs (0 : Fin 8)).2.2.1]; exact (hreal _).2.2 j)
  refine ⟨outv m, (θ_run defs _ _).mono (fun r h c => h.1 c) (run_ends (F := Ideal) m g),
    (θ_run Cert.ReferenceIdeal.defs _ _).mono (fun r h => ?_) (Cert.ReferenceIdeal.Value.run (F := Ideal) m' g')⟩
  refine ⟨(h 0).1.trans ((AttnRef.res_eq m' 0).trans key.symm), (h 0).2⟩

end Cert.Attn
-- ==== Proof.lean ====
/-
The proof of the certificate's claim: the three programs' frames, the idealization (which rewrites nothing) and the value
claim. The lemmas are in the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Frames
public import proofs.«01_k».proof.Proof.Algebraic

@[expose] public section

noncomputable section

namespace Cert.Proof

/-- Everything that the certificate claims. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, Cert.Attn.frame_kernel, Cert.Attn.frame_ideal, Cert.Attn.frame_ideal_pre,
    Cert.Attn.frame_reference, Cert.Attn.frame_reference_pre, trivial, Cert.Attn.algebraic⟩

end Cert.Proof

end
